-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 4096]⟩ ⟨3, ![4, 4096, 4096]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S2x2048x1024 : Shape := ⟨3, ![2, 2048, 1024]⟩
abbrev S3x2048x1024 : Shape := ⟨3, ![3, 2048, 1024]⟩
abbrev S2x16 : Shape := ⟨2, ![2, 16]⟩
abbrev S2x3x16 : Shape := ⟨3, ![2, 3, 16]⟩
abbrev S1x1 : Shape := ⟨2, ![1, 1]⟩
abbrev S_ : Shape := ⟨0, ![]⟩
abbrev S1x128x1024 : Shape := ⟨3, ![1, 128, 1024]⟩
abbrev S128x1024 : Shape := ⟨2, ![128, 1024]⟩
abbrev S1x1x1 : Shape := ⟨3, ![1, 1, 1]⟩

abbrev nBuf : Space → Nat
  | .hbm => 2
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .bf16⟩
  | .local _ .vmem, ⟨0, _⟩ => ⟨S4096x1024, .bf16⟩
  | .local _ .vmem, ⟨1, _⟩ => ⟨S2x2048x1024, .f32⟩
  | .local _ .vmem, ⟨2, _⟩ => ⟨S2x2048x1024, .bf16⟩
  | .local _ .vmem, ⟨3, _⟩ => ⟨S3x2048x1024, .bf16⟩
  | .local _ .vmem, ⟨4, _⟩ => ⟨S3x2048x1024, .bf16⟩
  | _, _ => ⟨S1x4096x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 225 → Bool
  | ⟨i, _⟩ => dmaSemScopedAt i

abbrev sig : RefSig :=
  (ofTc nBuf bufTy 1 225 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c3_i32 : BitVec 32) (c0_i32 : BitVec 32) : Fin 3 → Nat :=
  let c0_i32_7 : BitVec 32 := 0#32
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32
  let v9 : BitVec 32 := Scalar.subi v8 c0_i32
  let c4_i32_5 : BitVec 32 := 4#32
  let v10 : BitVec 32 := Scalar.addi v9 c4_i32_5
  let c4_i32_6 : BitVec 32 := 4#32
  let v11 : BitVec 32 := Scalar.remsi v10 c4_i32_6
  let c1024_i32 : BitVec 32 := 1024#32
  let v12 : BitVec 32 := Scalar.muli v11 c1024_i32
  ![0, 0, v12.toNat]
def k0_off1_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off2 (d0 : Dev nD) (c3_i32_14 : BitVec 32) (c0_i32_15 : BitVec 32) : Fin 3 → Nat :=
  let c0_i32_19 : BitVec 32 := 0#32
  let c128_i32_24 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v19 : BitVec 32 := Scalar.addi v2 c3_i32_14
  let v20 : BitVec 32 := Scalar.subi v19 c0_i32_15
  let c4_i32_16 : BitVec 32 := 4#32
  let v21 : BitVec 32 := Scalar.addi v20 c4_i32_16
  let c4_i32_17 : BitVec 32 := 4#32
  let v22 : BitVec 32 := Scalar.remsi v21 c4_i32_17
  let c1024_i32_18 : BitVec 32 := 1024#32
  let v23 : BitVec 32 := Scalar.muli v22 c1024_i32_18
  ![0, 128, v23.toNat]
def k0_off2_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off3 (d0 : Dev nD) (c3_i32_25 : BitVec 32) (c0_i32_26 : BitVec 32) : Fin 3 → Nat :=
  let c0_i32_30 : BitVec 32 := 0#32
  let c256_i32_34 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c3_i32_25
  let v31 : BitVec 32 := Scalar.subi v30 c0_i32_26
  let c4_i32_27 : BitVec 32 := 4#32
  let v32 : BitVec 32 := Scalar.addi v31 c4_i32_27
  let c4_i32_28 : BitVec 32 := 4#32
  let v33 : BitVec 32 := Scalar.remsi v32 c4_i32_28
  let c1024_i32_29 : BitVec 32 := 1024#32
  let v34 : BitVec 32 := Scalar.muli v33 c1024_i32_29
  ![0, 256, v34.toNat]
def k0_off3_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off4 (d0 : Dev nD) (c3_i32_35 : BitVec 32) (c0_i32_36 : BitVec 32) : Fin 3 → Nat :=
  let c0_i32_40 : BitVec 32 := 0#32
  let c384_i32_45 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v41 : BitVec 32 := Scalar.addi v2 c3_i32_35
  let v42 : BitVec 32 := Scalar.subi v41 c0_i32_36
  let c4_i32_37 : BitVec 32 := 4#32
  let v43 : BitVec 32 := Scalar.addi v42 c4_i32_37
  let c4_i32_38 : BitVec 32 := 4#32
  let v44 : BitVec 32 := Scalar.remsi v43 c4_i32_38
  let c1024_i32_39 : BitVec 32 := 1024#32
  let v45 : BitVec 32 := Scalar.muli v44 c1024_i32_39
  ![0, 384, v45.toNat]
def k0_off4_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off5 (d0 : Dev nD) (c3_i32_46 : BitVec 32) (c0_i32_47 : BitVec 32) : Fin 3 → Nat :=
  let c0_i32_51 : BitVec 32 := 0#32
  let c512_i32_56 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v52 : BitVec 32 := Scalar.addi v2 c3_i32_46
  let v53 : BitVec 32 := Scalar.subi v52 c0_i32_47
  let c4_i32_48 : BitVec 32 := 4#32
  let v54 : BitVec 32 := Scalar.addi v53 c4_i32_48
  let c4_i32_49 : BitVec 32 := 4#32
  let v55 : BitVec 32 := Scalar.remsi v54 c4_i32_49
  let c1024_i32_50 : BitVec 32 := 1024#32
  let v56 : BitVec 32 := Scalar.muli v55 c1024_i32_50
  ![0, 512, v56.toNat]
def k0_off5_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off6 (d0 : Dev nD) (c3_i32_57 : BitVec 32) (c0_i32_58 : BitVec 32) : Fin 3 → Nat :=
  let c0_i32_62 : BitVec 32 := 0#32
  let c640_i32_66 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v63 : BitVec 32 := Scalar.addi v2 c3_i32_57
  let v64 : BitVec 32 := Scalar.subi v63 c0_i32_58
  let c4_i32_59 : BitVec 32 := 4#32
  let v65 : BitVec 32 := Scalar.addi v64 c4_i32_59
  let c4_i32_60 : BitVec 32 := 4#32
  let v66 : BitVec 32 := Scalar.remsi v65 c4_i32_60
  let c1024_i32_61 : BitVec 32 := 1024#32
  let v67 : BitVec 32 := Scalar.muli v66 c1024_i32_61
  ![0, 640, v67.toNat]
def k0_off6_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off7 (d0 : Dev nD) (c3_i32_67 : BitVec 32) (c0_i32_68 : BitVec 32) : Fin 3 → Nat :=
  let c0_i32_72 : BitVec 32 := 0#32
  let c768_i32_76 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c3_i32_67
  let v75 : BitVec 32 := Scalar.subi v74 c0_i32_68
  let c4_i32_69 : BitVec 32 := 4#32
  let v76 : BitVec 32 := Scalar.addi v75 c4_i32_69
  let c4_i32_70 : BitVec 32 := 4#32
  let v77 : BitVec 32 := Scalar.remsi v76 c4_i32_70
  let c1024_i32_71 : BitVec 32 := 1024#32
  let v78 : BitVec 32 := Scalar.muli v77 c1024_i32_71
  ![0, 768, v78.toNat]
def k0_off7_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off8 (d0 : Dev nD) (c3_i32_77 : BitVec 32) (c0_i32_78 : BitVec 32) : Fin 3 → Nat :=
  let c0_i32_82 : BitVec 32 := 0#32
  let c896_i32_86 : BitVec 32 := 896#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v85 : BitVec 32 := Scalar.addi v2 c3_i32_77
  let v86 : BitVec 32 := Scalar.subi v85 c0_i32_78
  let c4_i32_79 : BitVec 32 := 4#32
  let v87 : BitVec 32 := Scalar.addi v86 c4_i32_79
  let c4_i32_80 : BitVec 32 := 4#32
  let v88 : BitVec 32 := Scalar.remsi v87 c4_i32_80
  let c1024_i32_81 : BitVec 32 := 1024#32
  let v89 : BitVec 32 := Scalar.muli v88 c1024_i32_81
  ![0, 896, v89.toNat]
def k0_off8_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off9 (d0 : Dev nD) (c3_i32_87 : BitVec 32) (c0_i32_88 : BitVec 32) : Fin 3 → Nat :=
  let c0_i32_92 : BitVec 32 := 0#32
  let c1024_i32_97 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v96 : BitVec 32 := Scalar.addi v2 c3_i32_87
  let v97 : BitVec 32 := Scalar.subi v96 c0_i32_88
  let c4_i32_89 : BitVec 32 := 4#32
  let v98 : BitVec 32 := Scalar.addi v97 c4_i32_89
  let c4_i32_90 : BitVec 32 := 4#32
  let v99 : BitVec 32 := Scalar.remsi v98 c4_i32_90
  let c1024_i32_91 : BitVec 32 := 1024#32
  let v100 : BitVec 32 := Scalar.muli v99 c1024_i32_91
  ![0, 1024, v100.toNat]
def k0_off9_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off10 (d0 : Dev nD) (c3_i32_98 : BitVec 32) (c0_i32_99 : BitVec 32) : Fin 3 → Nat :=
  let c0_i32_103 : BitVec 32 := 0#32
  let c1152_i32_107 : BitVec 32 := 1152#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v107 : BitVec 32 := Scalar.addi v2 c3_i32_98
  let v108 : BitVec 32 := Scalar.subi v107 c0_i32_99
  let c4_i32_100 : BitVec 32 := 4#32
  let v109 : BitVec 32 := Scalar.addi v108 c4_i32_100
  let c4_i32_101 : BitVec 32 := 4#32
  let v110 : BitVec 32 := Scalar.remsi v109 c4_i32_101
  let c1024_i32_102 : BitVec 32 := 1024#32
  let v111 : BitVec 32 := Scalar.muli v110 c1024_i32_102
  ![0, 1152, v111.toNat]
def k0_off10_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off11 (d0 : Dev nD) (c3_i32_108 : BitVec 32) (c0_i32_109 : BitVec 32) : Fin 3 → Nat :=
  let c0_i32_113 : BitVec 32 := 0#32
  let c1280_i32_117 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c3_i32_108
  let v119 : BitVec 32 := Scalar.subi v118 c0_i32_109
  let c4_i32_110 : BitVec 32 := 4#32
  let v120 : BitVec 32 := Scalar.addi v119 c4_i32_110
  let c4_i32_111 : BitVec 32 := 4#32
  let v121 : BitVec 32 := Scalar.remsi v120 c4_i32_111
  let c1024_i32_112 : BitVec 32 := 1024#32
  let v122 : BitVec 32 := Scalar.muli v121 c1024_i32_112
  ![0, 1280, v122.toNat]
def k0_off11_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off12 (d0 : Dev nD) (c3_i32_118 : BitVec 32) (c0_i32_119 : BitVec 32) : Fin 3 → Nat :=
  let c0_i32_123 : BitVec 32 := 0#32
  let c1408_i32_127 : BitVec 32 := 1408#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v129 : BitVec 32 := Scalar.addi v2 c3_i32_118
  let v130 : BitVec 32 := Scalar.subi v129 c0_i32_119
  let c4_i32_120 : BitVec 32 := 4#32
  let v131 : BitVec 32 := Scalar.addi v130 c4_i32_120
  let c4_i32_121 : BitVec 32 := 4#32
  let v132 : BitVec 32 := Scalar.remsi v131 c4_i32_121
  let c1024_i32_122 : BitVec 32 := 1024#32
  let v133 : BitVec 32 := Scalar.muli v132 c1024_i32_122
  ![0, 1408, v133.toNat]
def k0_off12_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off13 (d0 : Dev nD) (c3_i32_128 : BitVec 32) (c0_i32_129 : BitVec 32) : Fin 3 → Nat :=
  let c0_i32_133 : BitVec 32 := 0#32
  let c1536_i32_137 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v140 : BitVec 32 := Scalar.addi v2 c3_i32_128
  let v141 : BitVec 32 := Scalar.subi v140 c0_i32_129
  let c4_i32_130 : BitVec 32 := 4#32
  let v142 : BitVec 32 := Scalar.addi v141 c4_i32_130
  let c4_i32_131 : BitVec 32 := 4#32
  let v143 : BitVec 32 := Scalar.remsi v142 c4_i32_131
  let c1024_i32_132 : BitVec 32 := 1024#32
  let v144 : BitVec 32 := Scalar.muli v143 c1024_i32_132
  ![0, 1536, v144.toNat]
def k0_off13_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off14 (d0 : Dev nD) (c3_i32_138 : BitVec 32) (c0_i32_139 : BitVec 32) : Fin 3 → Nat :=
  let c0_i32_143 : BitVec 32 := 0#32
  let c1664_i32_147 : BitVec 32 := 1664#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v151 : BitVec 32 := Scalar.addi v2 c3_i32_138
  let v152 : BitVec 32 := Scalar.subi v151 c0_i32_139
  let c4_i32_140 : BitVec 32 := 4#32
  let v153 : BitVec 32 := Scalar.addi v152 c4_i32_140
  let c4_i32_141 : BitVec 32 := 4#32
  let v154 : BitVec 32 := Scalar.remsi v153 c4_i32_141
  let c1024_i32_142 : BitVec 32 := 1024#32
  let v155 : BitVec 32 := Scalar.muli v154 c1024_i32_142
  ![0, 1664, v155.toNat]
def k0_off14_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off15 (d0 : Dev nD) (c3_i32_148 : BitVec 32) (c0_i32_149 : BitVec 32) : Fin 3 → Nat :=
  let c0_i32_153 : BitVec 32 := 0#32
  let c1792_i32_157 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v162 : BitVec 32 := Scalar.addi v2 c3_i32_148
  let v163 : BitVec 32 := Scalar.subi v162 c0_i32_149
  let c4_i32_150 : BitVec 32 := 4#32
  let v164 : BitVec 32 := Scalar.addi v163 c4_i32_150
  let c4_i32_151 : BitVec 32 := 4#32
  let v165 : BitVec 32 := Scalar.remsi v164 c4_i32_151
  let c1024_i32_152 : BitVec 32 := 1024#32
  let v166 : BitVec 32 := Scalar.muli v165 c1024_i32_152
  ![0, 1792, v166.toNat]
def k0_off15_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off16 (d0 : Dev nD) (c3_i32_158 : BitVec 32) (c0_i32_159 : BitVec 32) : Fin 3 → Nat :=
  let c0_i32_163 : BitVec 32 := 0#32
  let c1920_i32_167 : BitVec 32 := 1920#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v173 : BitVec 32 := Scalar.addi v2 c3_i32_158
  let v174 : BitVec 32 := Scalar.subi v173 c0_i32_159
  let c4_i32_160 : BitVec 32 := 4#32
  let v175 : BitVec 32 := Scalar.addi v174 c4_i32_160
  let c4_i32_161 : BitVec 32 := 4#32
  let v176 : BitVec 32 := Scalar.remsi v175 c4_i32_161
  let c1024_i32_162 : BitVec 32 := 1024#32
  let v177 : BitVec 32 := Scalar.muli v176 c1024_i32_162
  ![0, 1920, v177.toNat]
def k0_off16_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off17 (d0 : Dev nD) (c1_i32_168 : BitVec 32) (c0_i32_169 : BitVec 32) : Fin 3 → Nat :=
  let c0_i32_172 : BitVec 32 := 0#32
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v184 : BitVec 32 := Scalar.addi v2 c1_i32_168
  let v185 : BitVec 32 := Scalar.addi v184 c0_i32_169
  let c4_i32_170 : BitVec 32 := 4#32
  let v186 : BitVec 32 := Scalar.remsi v185 c4_i32_170
  let c1024_i32_171 : BitVec 32 := 1024#32
  let v187 : BitVec 32 := Scalar.muli v186 c1024_i32_171
  ![0, 2048, v187.toNat]
def k0_off17_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off18 (d0 : Dev nD) (c1_i32_178 : BitVec 32) (c0_i32_179 : BitVec 32) : Fin 3 → Nat :=
  let c0_i32_182 : BitVec 32 := 0#32
  let c2176_i32 : BitVec 32 := 2176#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : BitVec 32 := Scalar.addi v2 c1_i32_178
  let v195 : BitVec 32 := Scalar.addi v194 c0_i32_179
  let c4_i32_180 : BitVec 32 := 4#32
  let v196 : BitVec 32 := Scalar.remsi v195 c4_i32_180
  let c1024_i32_181 : BitVec 32 := 1024#32
  let v197 : BitVec 32 := Scalar.muli v196 c1024_i32_181
  ![0, 2176, v197.toNat]
def k0_off18_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off19 (d0 : Dev nD) (c1_i32_188 : BitVec 32) (c0_i32_189 : BitVec 32) : Fin 3 → Nat :=
  let c0_i32_192 : BitVec 32 := 0#32
  let c2304_i32 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v204 : BitVec 32 := Scalar.addi v2 c1_i32_188
  let v205 : BitVec 32 := Scalar.addi v204 c0_i32_189
  let c4_i32_190 : BitVec 32 := 4#32
  let v206 : BitVec 32 := Scalar.remsi v205 c4_i32_190
  let c1024_i32_191 : BitVec 32 := 1024#32
  let v207 : BitVec 32 := Scalar.muli v206 c1024_i32_191
  ![0, 2304, v207.toNat]
def k0_off19_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off20 (d0 : Dev nD) (c1_i32_198 : BitVec 32) (c0_i32_199 : BitVec 32) : Fin 3 → Nat :=
  let c0_i32_202 : BitVec 32 := 0#32
  let c2432_i32 : BitVec 32 := 2432#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v214 : BitVec 32 := Scalar.addi v2 c1_i32_198
  let v215 : BitVec 32 := Scalar.addi v214 c0_i32_199
  let c4_i32_200 : BitVec 32 := 4#32
  let v216 : BitVec 32 := Scalar.remsi v215 c4_i32_200
  let c1024_i32_201 : BitVec 32 := 1024#32
  let v217 : BitVec 32 := Scalar.muli v216 c1024_i32_201
  ![0, 2432, v217.toNat]
def k0_off20_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off21 (d0 : Dev nD) (c1_i32_208 : BitVec 32) (c0_i32_209 : BitVec 32) : Fin 3 → Nat :=
  let c0_i32_212 : BitVec 32 := 0#32
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v224 : BitVec 32 := Scalar.addi v2 c1_i32_208
  let v225 : BitVec 32 := Scalar.addi v224 c0_i32_209
  let c4_i32_210 : BitVec 32 := 4#32
  let v226 : BitVec 32 := Scalar.remsi v225 c4_i32_210
  let c1024_i32_211 : BitVec 32 := 1024#32
  let v227 : BitVec 32 := Scalar.muli v226 c1024_i32_211
  ![0, 2560, v227.toNat]
def k0_off21_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off22 (d0 : Dev nD) (c1_i32_218 : BitVec 32) (c0_i32_219 : BitVec 32) : Fin 3 → Nat :=
  let c0_i32_222 : BitVec 32 := 0#32
  let c2688_i32 : BitVec 32 := 2688#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v234 : BitVec 32 := Scalar.addi v2 c1_i32_218
  let v235 : BitVec 32 := Scalar.addi v234 c0_i32_219
  let c4_i32_220 : BitVec 32 := 4#32
  let v236 : BitVec 32 := Scalar.remsi v235 c4_i32_220
  let c1024_i32_221 : BitVec 32 := 1024#32
  let v237 : BitVec 32 := Scalar.muli v236 c1024_i32_221
  ![0, 2688, v237.toNat]
def k0_off22_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off23 (d0 : Dev nD) (c1_i32_228 : BitVec 32) (c0_i32_229 : BitVec 32) : Fin 3 → Nat :=
  let c0_i32_232 : BitVec 32 := 0#32
  let c2816_i32 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v244 : BitVec 32 := Scalar.addi v2 c1_i32_228
  let v245 : BitVec 32 := Scalar.addi v244 c0_i32_229
  let c4_i32_230 : BitVec 32 := 4#32
  let v246 : BitVec 32 := Scalar.remsi v245 c4_i32_230
  let c1024_i32_231 : BitVec 32 := 1024#32
  let v247 : BitVec 32 := Scalar.muli v246 c1024_i32_231
  ![0, 2816, v247.toNat]
def k0_off23_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off24 (d0 : Dev nD) (c1_i32_238 : BitVec 32) (c0_i32_239 : BitVec 32) : Fin 3 → Nat :=
  let c0_i32_242 : BitVec 32 := 0#32
  let c2944_i32 : BitVec 32 := 2944#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v254 : BitVec 32 := Scalar.addi v2 c1_i32_238
  let v255 : BitVec 32 := Scalar.addi v254 c0_i32_239
  let c4_i32_240 : BitVec 32 := 4#32
  let v256 : BitVec 32 := Scalar.remsi v255 c4_i32_240
  let c1024_i32_241 : BitVec 32 := 1024#32
  let v257 : BitVec 32 := Scalar.muli v256 c1024_i32_241
  ![0, 2944, v257.toNat]
def k0_off24_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off25 (d0 : Dev nD) (c1_i32_248 : BitVec 32) (c0_i32_249 : BitVec 32) : Fin 3 → Nat :=
  let c0_i32_252 : BitVec 32 := 0#32
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v264 : BitVec 32 := Scalar.addi v2 c1_i32_248
  let v265 : BitVec 32 := Scalar.addi v264 c0_i32_249
  let c4_i32_250 : BitVec 32 := 4#32
  let v266 : BitVec 32 := Scalar.remsi v265 c4_i32_250
  let c1024_i32_251 : BitVec 32 := 1024#32
  let v267 : BitVec 32 := Scalar.muli v266 c1024_i32_251
  ![0, 3072, v267.toNat]
def k0_off25_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off26 (d0 : Dev nD) (c1_i32_258 : BitVec 32) (c0_i32_259 : BitVec 32) : Fin 3 → Nat :=
  let c0_i32_262 : BitVec 32 := 0#32
  let c3200_i32 : BitVec 32 := 3200#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v274 : BitVec 32 := Scalar.addi v2 c1_i32_258
  let v275 : BitVec 32 := Scalar.addi v274 c0_i32_259
  let c4_i32_260 : BitVec 32 := 4#32
  let v276 : BitVec 32 := Scalar.remsi v275 c4_i32_260
  let c1024_i32_261 : BitVec 32 := 1024#32
  let v277 : BitVec 32 := Scalar.muli v276 c1024_i32_261
  ![0, 3200, v277.toNat]
def k0_off26_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off27 (d0 : Dev nD) (c1_i32_268 : BitVec 32) (c0_i32_269 : BitVec 32) : Fin 3 → Nat :=
  let c0_i32_272 : BitVec 32 := 0#32
  let c3328_i32 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v284 : BitVec 32 := Scalar.addi v2 c1_i32_268
  let v285 : BitVec 32 := Scalar.addi v284 c0_i32_269
  let c4_i32_270 : BitVec 32 := 4#32
  let v286 : BitVec 32 := Scalar.remsi v285 c4_i32_270
  let c1024_i32_271 : BitVec 32 := 1024#32
  let v287 : BitVec 32 := Scalar.muli v286 c1024_i32_271
  ![0, 3328, v287.toNat]
def k0_off27_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off28 (d0 : Dev nD) (c1_i32_278 : BitVec 32) (c0_i32_279 : BitVec 32) : Fin 3 → Nat :=
  let c0_i32_282 : BitVec 32 := 0#32
  let c3456_i32 : BitVec 32 := 3456#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v294 : BitVec 32 := Scalar.addi v2 c1_i32_278
  let v295 : BitVec 32 := Scalar.addi v294 c0_i32_279
  let c4_i32_280 : BitVec 32 := 4#32
  let v296 : BitVec 32 := Scalar.remsi v295 c4_i32_280
  let c1024_i32_281 : BitVec 32 := 1024#32
  let v297 : BitVec 32 := Scalar.muli v296 c1024_i32_281
  ![0, 3456, v297.toNat]
def k0_off28_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off29 (d0 : Dev nD) (c1_i32_288 : BitVec 32) (c0_i32_289 : BitVec 32) : Fin 3 → Nat :=
  let c0_i32_292 : BitVec 32 := 0#32
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v304 : BitVec 32 := Scalar.addi v2 c1_i32_288
  let v305 : BitVec 32 := Scalar.addi v304 c0_i32_289
  let c4_i32_290 : BitVec 32 := 4#32
  let v306 : BitVec 32 := Scalar.remsi v305 c4_i32_290
  let c1024_i32_291 : BitVec 32 := 1024#32
  let v307 : BitVec 32 := Scalar.muli v306 c1024_i32_291
  ![0, 3584, v307.toNat]
def k0_off29_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off30 (d0 : Dev nD) (c1_i32_298 : BitVec 32) (c0_i32_299 : BitVec 32) : Fin 3 → Nat :=
  let c0_i32_302 : BitVec 32 := 0#32
  let c3712_i32 : BitVec 32 := 3712#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v314 : BitVec 32 := Scalar.addi v2 c1_i32_298
  let v315 : BitVec 32 := Scalar.addi v314 c0_i32_299
  let c4_i32_300 : BitVec 32 := 4#32
  let v316 : BitVec 32 := Scalar.remsi v315 c4_i32_300
  let c1024_i32_301 : BitVec 32 := 1024#32
  let v317 : BitVec 32 := Scalar.muli v316 c1024_i32_301
  ![0, 3712, v317.toNat]
def k0_off30_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off31 (d0 : Dev nD) (c1_i32_308 : BitVec 32) (c0_i32_309 : BitVec 32) : Fin 3 → Nat :=
  let c0_i32_312 : BitVec 32 := 0#32
  let c3840_i32 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v324 : BitVec 32 := Scalar.addi v2 c1_i32_308
  let v325 : BitVec 32 := Scalar.addi v324 c0_i32_309
  let c4_i32_310 : BitVec 32 := 4#32
  let v326 : BitVec 32 := Scalar.remsi v325 c4_i32_310
  let c1024_i32_311 : BitVec 32 := 1024#32
  let v327 : BitVec 32 := Scalar.muli v326 c1024_i32_311
  ![0, 3840, v327.toNat]
def k0_off31_at (r : Fin 4) : BitVec 32 × BitVec 32 :=
  if r.val < 2 then
    if r.val < 1 then
      (1#32, 0#32)
    else
      (2#32, 0#32)
  else
    if r.val < 3 then
      (2#32, 1#32)
    else
      (2#32, 2#32)
def k0_off32 (d0 : Dev nD) (c1_i32_318 : BitVec 32) (c0_i32_319 : BitVec 32) : Fin 3 → Nat :=
  let c0_i32_322 : BitVec 32 := 0#32
  let c3968_i32 : BitVec 32 := 3968#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v334 : BitVec 32 := Scalar.addi v2 c1_i32_318
  let v335 : BitVec 32 := Scalar.addi v334 c0_i32_319
  let c4_i32_320 : BitVec 32 := 4#32
  let v336 : BitVec 32 := Scalar.remsi v335 c4_i32_320
  let c1024_i32_321 : BitVec 32 := 1024#32
  let v337 : BitVec 32 := Scalar.muli v336 c1024_i32_321
  ![0, 3968, v337.toNat]
def k0_off32_at (r : Fin 4) : BitVec 32 × BitVec 32 :=
  if r.val < 2 then
    if r.val < 1 then
      (1#32, 0#32)
    else
      (2#32, 0#32)
  else
    if r.val < 3 then
      (2#32, 1#32)
    else
      (2#32, 2#32)
def k0_dev1 (d0 : Dev nD) : Nat :=
  let c0_i32_330 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_329 : BitVec 32 := 1#32
  let v345 : BitVec 32 := Scalar.muli v5 c1_i32_329
  let v346 : BitVec 32 := Scalar.addi c0_i32_330 v345
  v346.toNat
def k0_dev2 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_332 : BitVec 32 := 1#32
  let v347 : BitVec 32 := Scalar.muli v7 c1_i32_332
  let v348 : BitVec 32 := Scalar.addi c0_i32_333 v347
  v348.toNat
def k0_dev3 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_355 : BitVec 32 := 1#32
  let v361 : BitVec 32 := Scalar.muli v7 c1_i32_355
  let v362 : BitVec 32 := Scalar.addi c0_i32_356 v361
  v362.toNat
def k0_dev4 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_393 : BitVec 32 := 1#32
  let v394 : BitVec 32 := Scalar.muli v5 c1_i32_393
  let v395 : BitVec 32 := Scalar.addi c0_i32_394 v394
  v395.toNat
def k0_dev5 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_430 : BitVec 32 := 1#32
  let v426 : BitVec 32 := Scalar.muli v7 c1_i32_430
  let v427 : BitVec 32 := Scalar.addi c0_i32_431 v426
  v427.toNat
def k0_dev6 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_469 : BitVec 32 := 1#32
  let v459 : BitVec 32 := Scalar.muli v5 c1_i32_469
  let v460 : BitVec 32 := Scalar.addi c0_i32_470 v459
  v460.toNat
def k0_dev7 (d0 : Dev nD) : Nat :=
  let c0_i32_507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_506 : BitVec 32 := 1#32
  let v491 : BitVec 32 := Scalar.muli v7 c1_i32_506
  let v492 : BitVec 32 := Scalar.addi c0_i32_507 v491
  v492.toNat
def k0_dev8 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_545 : BitVec 32 := 1#32
  let v524 : BitVec 32 := Scalar.muli v5 c1_i32_545
  let v525 : BitVec 32 := Scalar.addi c0_i32_546 v524
  v525.toNat
def k0_dev9 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_582 : BitVec 32 := 1#32
  let v556 : BitVec 32 := Scalar.muli v7 c1_i32_582
  let v557 : BitVec 32 := Scalar.addi c0_i32_583 v556
  v557.toNat
def k0_dev10 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_621 : BitVec 32 := 1#32
  let v589 : BitVec 32 := Scalar.muli v5 c1_i32_621
  let v590 : BitVec 32 := Scalar.addi c0_i32_622 v589
  v590.toNat
def k0_dev11 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_658 : BitVec 32 := 1#32
  let v621 : BitVec 32 := Scalar.muli v7 c1_i32_658
  let v622 : BitVec 32 := Scalar.addi c0_i32_659 v621
  v622.toNat
def k0_dev12 (d0 : Dev nD) : Nat :=
  let c0_i32_698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_697 : BitVec 32 := 1#32
  let v654 : BitVec 32 := Scalar.muli v5 c1_i32_697
  let v655 : BitVec 32 := Scalar.addi c0_i32_698 v654
  v655.toNat
def k0_dev13 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_734 : BitVec 32 := 1#32
  let v686 : BitVec 32 := Scalar.muli v7 c1_i32_734
  let v687 : BitVec 32 := Scalar.addi c0_i32_735 v686
  v687.toNat
def k0_dev14 (d0 : Dev nD) : Nat :=
  let c0_i32_774 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_773 : BitVec 32 := 1#32
  let v719 : BitVec 32 := Scalar.muli v5 c1_i32_773
  let v720 : BitVec 32 := Scalar.addi c0_i32_774 v719
  v720.toNat
def k0_dev15 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_810 : BitVec 32 := 1#32
  let v751 : BitVec 32 := Scalar.muli v7 c1_i32_810
  let v752 : BitVec 32 := Scalar.addi c0_i32_811 v751
  v752.toNat
def k0_dev16 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_849 : BitVec 32 := 1#32
  let v784 : BitVec 32 := Scalar.muli v5 c1_i32_849
  let v785 : BitVec 32 := Scalar.addi c0_i32_850 v784
  v785.toNat
def k0_dev17 (d0 : Dev nD) : Nat :=
  let c0_i32_887 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_886 : BitVec 32 := 1#32
  let v816 : BitVec 32 := Scalar.muli v7 c1_i32_886
  let v817 : BitVec 32 := Scalar.addi c0_i32_887 v816
  v817.toNat
def k0_dev18 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_925 : BitVec 32 := 1#32
  let v849 : BitVec 32 := Scalar.muli v5 c1_i32_925
  let v850 : BitVec 32 := Scalar.addi c0_i32_926 v849
  v850.toNat
def k0_dev19 (d0 : Dev nD) : Nat :=
  let c0_i32_963 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_962 : BitVec 32 := 1#32
  let v881 : BitVec 32 := Scalar.muli v7 c1_i32_962
  let v882 : BitVec 32 := Scalar.addi c0_i32_963 v881
  v882.toNat
def k0_dev20 (d0 : Dev nD) : Nat :=
  let c0_i32_1002 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1001 : BitVec 32 := 1#32
  let v914 : BitVec 32 := Scalar.muli v5 c1_i32_1001
  let v915 : BitVec 32 := Scalar.addi c0_i32_1002 v914
  v915.toNat
def k0_dev21 (d0 : Dev nD) : Nat :=
  let c0_i32_1039 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1038 : BitVec 32 := 1#32
  let v946 : BitVec 32 := Scalar.muli v7 c1_i32_1038
  let v947 : BitVec 32 := Scalar.addi c0_i32_1039 v946
  v947.toNat
def k0_dev22 (d0 : Dev nD) : Nat :=
  let c0_i32_1078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1077 : BitVec 32 := 1#32
  let v979 : BitVec 32 := Scalar.muli v5 c1_i32_1077
  let v980 : BitVec 32 := Scalar.addi c0_i32_1078 v979
  v980.toNat
def k0_dev23 (d0 : Dev nD) : Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1114 : BitVec 32 := 1#32
  let v1011 : BitVec 32 := Scalar.muli v7 c1_i32_1114
  let v1012 : BitVec 32 := Scalar.addi c0_i32_1115 v1011
  v1012.toNat
def k0_dev24 (d0 : Dev nD) : Nat :=
  let c0_i32_1154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1153 : BitVec 32 := 1#32
  let v1044 : BitVec 32 := Scalar.muli v5 c1_i32_1153
  let v1045 : BitVec 32 := Scalar.addi c0_i32_1154 v1044
  v1045.toNat
def k0_dev25 (d0 : Dev nD) : Nat :=
  let c0_i32_1191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1190 : BitVec 32 := 1#32
  let v1076 : BitVec 32 := Scalar.muli v7 c1_i32_1190
  let v1077 : BitVec 32 := Scalar.addi c0_i32_1191 v1076
  v1077.toNat
def k0_dev26 (d0 : Dev nD) : Nat :=
  let c0_i32_1230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1229 : BitVec 32 := 1#32
  let v1109 : BitVec 32 := Scalar.muli v5 c1_i32_1229
  let v1110 : BitVec 32 := Scalar.addi c0_i32_1230 v1109
  v1110.toNat
def k0_dev27 (d0 : Dev nD) : Nat :=
  let c0_i32_1267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1266 : BitVec 32 := 1#32
  let v1141 : BitVec 32 := Scalar.muli v7 c1_i32_1266
  let v1142 : BitVec 32 := Scalar.addi c0_i32_1267 v1141
  v1142.toNat
def k0_dev28 (d0 : Dev nD) : Nat :=
  let c0_i32_1306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1305 : BitVec 32 := 1#32
  let v1174 : BitVec 32 := Scalar.muli v5 c1_i32_1305
  let v1175 : BitVec 32 := Scalar.addi c0_i32_1306 v1174
  v1175.toNat
def k0_dev29 (d0 : Dev nD) : Nat :=
  let c0_i32_1343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1342 : BitVec 32 := 1#32
  let v1206 : BitVec 32 := Scalar.muli v7 c1_i32_1342
  let v1207 : BitVec 32 := Scalar.addi c0_i32_1343 v1206
  v1207.toNat
def k0_dev30 (d0 : Dev nD) : Nat :=
  let c0_i32_1382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1381 : BitVec 32 := 1#32
  let v1239 : BitVec 32 := Scalar.muli v5 c1_i32_1381
  let v1240 : BitVec 32 := Scalar.addi c0_i32_1382 v1239
  v1240.toNat
def k0_dev31 (d0 : Dev nD) : Nat :=
  let c0_i32_1419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1418 : BitVec 32 := 1#32
  let v1271 : BitVec 32 := Scalar.muli v7 c1_i32_1418
  let v1272 : BitVec 32 := Scalar.addi c0_i32_1419 v1271
  v1272.toNat
def k0_dev32 (d0 : Dev nD) : Nat :=
  let c0_i32_1458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1457 : BitVec 32 := 1#32
  let v1304 : BitVec 32 := Scalar.muli v5 c1_i32_1457
  let v1305 : BitVec 32 := Scalar.addi c0_i32_1458 v1304
  v1305.toNat
def k0_dev33 (d0 : Dev nD) : Nat :=
  let c0_i32_1495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1494 : BitVec 32 := 1#32
  let v1336 : BitVec 32 := Scalar.muli v7 c1_i32_1494
  let v1337 : BitVec 32 := Scalar.addi c0_i32_1495 v1336
  v1337.toNat
def k0_dev34 (d0 : Dev nD) : Nat :=
  let c0_i32_1534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1533 : BitVec 32 := 1#32
  let v1369 : BitVec 32 := Scalar.muli v5 c1_i32_1533
  let v1370 : BitVec 32 := Scalar.addi c0_i32_1534 v1369
  v1370.toNat
def k0_dev35 (d0 : Dev nD) : Nat :=
  let c0_i32_1589 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1588 : BitVec 32 := 1#32
  let v1412 : BitVec 32 := Scalar.muli v7 c1_i32_1588
  let v1413 : BitVec 32 := Scalar.addi c0_i32_1589 v1412
  v1413.toNat
def k0_dev36 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1644 : BitVec 32 := 1#32
  let v1456 : BitVec 32 := Scalar.muli v5 c1_i32_1644
  let v1457 : BitVec 32 := Scalar.addi c0_i32_1645 v1456
  v1457.toNat
def k0_dev37 (d0 : Dev nD) : Nat :=
  let c0_i32_1700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1699 : BitVec 32 := 1#32
  let v1499 : BitVec 32 := Scalar.muli v7 c1_i32_1699
  let v1500 : BitVec 32 := Scalar.addi c0_i32_1700 v1499
  v1500.toNat
def k0_dev38 (d0 : Dev nD) : Nat :=
  let c0_i32_1756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1755 : BitVec 32 := 1#32
  let v1543 : BitVec 32 := Scalar.muli v5 c1_i32_1755
  let v1544 : BitVec 32 := Scalar.addi c0_i32_1756 v1543
  v1544.toNat
def k0_dev39 (d0 : Dev nD) : Nat :=
  let c0_i32_1811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1810 : BitVec 32 := 1#32
  let v1586 : BitVec 32 := Scalar.muli v7 c1_i32_1810
  let v1587 : BitVec 32 := Scalar.addi c0_i32_1811 v1586
  v1587.toNat
def k0_dev40 (d0 : Dev nD) : Nat :=
  let c0_i32_1867 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1866 : BitVec 32 := 1#32
  let v1630 : BitVec 32 := Scalar.muli v5 c1_i32_1866
  let v1631 : BitVec 32 := Scalar.addi c0_i32_1867 v1630
  v1631.toNat
def k0_dev41 (d0 : Dev nD) : Nat :=
  let c0_i32_1922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1921 : BitVec 32 := 1#32
  let v1673 : BitVec 32 := Scalar.muli v7 c1_i32_1921
  let v1674 : BitVec 32 := Scalar.addi c0_i32_1922 v1673
  v1674.toNat
def k0_dev42 (d0 : Dev nD) : Nat :=
  let c0_i32_1978 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1977 : BitVec 32 := 1#32
  let v1717 : BitVec 32 := Scalar.muli v5 c1_i32_1977
  let v1718 : BitVec 32 := Scalar.addi c0_i32_1978 v1717
  v1718.toNat
def k0_dev43 (d0 : Dev nD) : Nat :=
  let c0_i32_2033 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2032 : BitVec 32 := 1#32
  let v1760 : BitVec 32 := Scalar.muli v7 c1_i32_2032
  let v1761 : BitVec 32 := Scalar.addi c0_i32_2033 v1760
  v1761.toNat
def k0_dev44 (d0 : Dev nD) : Nat :=
  let c0_i32_2089 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2088 : BitVec 32 := 1#32
  let v1804 : BitVec 32 := Scalar.muli v5 c1_i32_2088
  let v1805 : BitVec 32 := Scalar.addi c0_i32_2089 v1804
  v1805.toNat
def k0_dev45 (d0 : Dev nD) : Nat :=
  let c0_i32_2144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2143 : BitVec 32 := 1#32
  let v1847 : BitVec 32 := Scalar.muli v7 c1_i32_2143
  let v1848 : BitVec 32 := Scalar.addi c0_i32_2144 v1847
  v1848.toNat
def k0_dev46 (d0 : Dev nD) : Nat :=
  let c0_i32_2200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2199 : BitVec 32 := 1#32
  let v1891 : BitVec 32 := Scalar.muli v5 c1_i32_2199
  let v1892 : BitVec 32 := Scalar.addi c0_i32_2200 v1891
  v1892.toNat
def k0_dev47 (d0 : Dev nD) : Nat :=
  let c0_i32_2255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2254 : BitVec 32 := 1#32
  let v1934 : BitVec 32 := Scalar.muli v7 c1_i32_2254
  let v1935 : BitVec 32 := Scalar.addi c0_i32_2255 v1934
  v1935.toNat
def k0_dev48 (d0 : Dev nD) : Nat :=
  let c0_i32_2311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2310 : BitVec 32 := 1#32
  let v1978 : BitVec 32 := Scalar.muli v5 c1_i32_2310
  let v1979 : BitVec 32 := Scalar.addi c0_i32_2311 v1978
  v1979.toNat
def k0_dev49 (d0 : Dev nD) : Nat :=
  let c0_i32_2366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2365 : BitVec 32 := 1#32
  let v2021 : BitVec 32 := Scalar.muli v7 c1_i32_2365
  let v2022 : BitVec 32 := Scalar.addi c0_i32_2366 v2021
  v2022.toNat
def k0_dev50 (d0 : Dev nD) : Nat :=
  let c0_i32_2422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2421 : BitVec 32 := 1#32
  let v2065 : BitVec 32 := Scalar.muli v5 c1_i32_2421
  let v2066 : BitVec 32 := Scalar.addi c0_i32_2422 v2065
  v2066.toNat
def k0_dev51 (d0 : Dev nD) : Nat :=
  let c0_i32_2477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2476 : BitVec 32 := 1#32
  let v2108 : BitVec 32 := Scalar.muli v7 c1_i32_2476
  let v2109 : BitVec 32 := Scalar.addi c0_i32_2477 v2108
  v2109.toNat
def k0_dev52 (d0 : Dev nD) : Nat :=
  let c0_i32_2533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2532 : BitVec 32 := 1#32
  let v2152 : BitVec 32 := Scalar.muli v5 c1_i32_2532
  let v2153 : BitVec 32 := Scalar.addi c0_i32_2533 v2152
  v2153.toNat
def k0_dev53 (d0 : Dev nD) : Nat :=
  let c0_i32_2588 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2587 : BitVec 32 := 1#32
  let v2195 : BitVec 32 := Scalar.muli v7 c1_i32_2587
  let v2196 : BitVec 32 := Scalar.addi c0_i32_2588 v2195
  v2196.toNat
def k0_dev54 (d0 : Dev nD) : Nat :=
  let c0_i32_2644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2643 : BitVec 32 := 1#32
  let v2239 : BitVec 32 := Scalar.muli v5 c1_i32_2643
  let v2240 : BitVec 32 := Scalar.addi c0_i32_2644 v2239
  v2240.toNat
def k0_dev55 (d0 : Dev nD) : Nat :=
  let c0_i32_2699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2698 : BitVec 32 := 1#32
  let v2282 : BitVec 32 := Scalar.muli v7 c1_i32_2698
  let v2283 : BitVec 32 := Scalar.addi c0_i32_2699 v2282
  v2283.toNat
def k0_dev56 (d0 : Dev nD) : Nat :=
  let c0_i32_2755 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2754 : BitVec 32 := 1#32
  let v2326 : BitVec 32 := Scalar.muli v5 c1_i32_2754
  let v2327 : BitVec 32 := Scalar.addi c0_i32_2755 v2326
  v2327.toNat
def k0_dev57 (d0 : Dev nD) : Nat :=
  let c0_i32_2810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2809 : BitVec 32 := 1#32
  let v2369 : BitVec 32 := Scalar.muli v7 c1_i32_2809
  let v2370 : BitVec 32 := Scalar.addi c0_i32_2810 v2369
  v2370.toNat
def k0_dev58 (d0 : Dev nD) : Nat :=
  let c0_i32_2866 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2865 : BitVec 32 := 1#32
  let v2413 : BitVec 32 := Scalar.muli v5 c1_i32_2865
  let v2414 : BitVec 32 := Scalar.addi c0_i32_2866 v2413
  v2414.toNat
def k0_dev59 (d0 : Dev nD) : Nat :=
  let c0_i32_2921 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2920 : BitVec 32 := 1#32
  let v2456 : BitVec 32 := Scalar.muli v7 c1_i32_2920
  let v2457 : BitVec 32 := Scalar.addi c0_i32_2921 v2456
  v2457.toNat
def k0_dev60 (d0 : Dev nD) : Nat :=
  let c0_i32_2977 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2976 : BitVec 32 := 1#32
  let v2500 : BitVec 32 := Scalar.muli v5 c1_i32_2976
  let v2501 : BitVec 32 := Scalar.addi c0_i32_2977 v2500
  v2501.toNat
def k0_dev61 (d0 : Dev nD) : Nat :=
  let c0_i32_3032 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3031 : BitVec 32 := 1#32
  let v2543 : BitVec 32 := Scalar.muli v7 c1_i32_3031
  let v2544 : BitVec 32 := Scalar.addi c0_i32_3032 v2543
  v2544.toNat
def k0_dev62 (d0 : Dev nD) : Nat :=
  let c0_i32_3088 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3087 : BitVec 32 := 1#32
  let v2587 : BitVec 32 := Scalar.muli v5 c1_i32_3087
  let v2588 : BitVec 32 := Scalar.addi c0_i32_3088 v2587
  v2588.toNat
def k0_dev63 (d0 : Dev nD) : Nat :=
  let c0_i32_3143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3142 : BitVec 32 := 1#32
  let v2630 : BitVec 32 := Scalar.muli v7 c1_i32_3142
  let v2631 : BitVec 32 := Scalar.addi c0_i32_3143 v2630
  v2631.toNat
def k0_dev64 (d0 : Dev nD) : Nat :=
  let c0_i32_3199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3198 : BitVec 32 := 1#32
  let v2674 : BitVec 32 := Scalar.muli v5 c1_i32_3198
  let v2675 : BitVec 32 := Scalar.addi c0_i32_3199 v2674
  v2675.toNat
def k0_dev65 (d0 : Dev nD) : Nat :=
  let c0_i32_3254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3253 : BitVec 32 := 1#32
  let v2717 : BitVec 32 := Scalar.muli v7 c1_i32_3253
  let v2718 : BitVec 32 := Scalar.addi c0_i32_3254 v2717
  v2718.toNat
def k0_dev66 (d0 : Dev nD) : Nat :=
  let c0_i32_3310 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3309 : BitVec 32 := 1#32
  let v2761 : BitVec 32 := Scalar.muli v5 c1_i32_3309
  let v2762 : BitVec 32 := Scalar.addi c0_i32_3310 v2761
  v2762.toNat
def k0_dev67 (d0 : Dev nD) : Nat :=
  let c0_i32_3365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3364 : BitVec 32 := 1#32
  let v2804 : BitVec 32 := Scalar.muli v7 c1_i32_3364
  let v2805 : BitVec 32 := Scalar.addi c0_i32_3365 v2804
  v2805.toNat
def k0_dev68 (d0 : Dev nD) : Nat :=
  let c0_i32_3421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3420 : BitVec 32 := 1#32
  let v2848 : BitVec 32 := Scalar.muli v5 c1_i32_3420
  let v2849 : BitVec 32 := Scalar.addi c0_i32_3421 v2848
  v2849.toNat
def k0_dev69 (d0 : Dev nD) : Nat :=
  let c0_i32_3476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3475 : BitVec 32 := 1#32
  let v2891 : BitVec 32 := Scalar.muli v7 c1_i32_3475
  let v2892 : BitVec 32 := Scalar.addi c0_i32_3476 v2891
  v2892.toNat
def k0_dev70 (d0 : Dev nD) : Nat :=
  let c0_i32_3532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3531 : BitVec 32 := 1#32
  let v2935 : BitVec 32 := Scalar.muli v5 c1_i32_3531
  let v2936 : BitVec 32 := Scalar.addi c0_i32_3532 v2935
  v2936.toNat
def k0_dev71 (d0 : Dev nD) : Nat :=
  let c0_i32_3587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3586 : BitVec 32 := 1#32
  let v2978 : BitVec 32 := Scalar.muli v7 c1_i32_3586
  let v2979 : BitVec 32 := Scalar.addi c0_i32_3587 v2978
  v2979.toNat
def k0_dev72 (d0 : Dev nD) : Nat :=
  let c0_i32_3643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3642 : BitVec 32 := 1#32
  let v3022 : BitVec 32 := Scalar.muli v5 c1_i32_3642
  let v3023 : BitVec 32 := Scalar.addi c0_i32_3643 v3022
  v3023.toNat
def k0_dev73 (d0 : Dev nD) : Nat :=
  let c0_i32_3698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3697 : BitVec 32 := 1#32
  let v3065 : BitVec 32 := Scalar.muli v7 c1_i32_3697
  let v3066 : BitVec 32 := Scalar.addi c0_i32_3698 v3065
  v3066.toNat
def k0_dev74 (d0 : Dev nD) : Nat :=
  let c0_i32_3754 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3753 : BitVec 32 := 1#32
  let v3109 : BitVec 32 := Scalar.muli v5 c1_i32_3753
  let v3110 : BitVec 32 := Scalar.addi c0_i32_3754 v3109
  v3110.toNat
def k0_dev75 (d0 : Dev nD) : Nat :=
  let c0_i32_3809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3808 : BitVec 32 := 1#32
  let v3152 : BitVec 32 := Scalar.muli v7 c1_i32_3808
  let v3153 : BitVec 32 := Scalar.addi c0_i32_3809 v3152
  v3153.toNat
def k0_dev76 (d0 : Dev nD) : Nat :=
  let c0_i32_3865 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3864 : BitVec 32 := 1#32
  let v3196 : BitVec 32 := Scalar.muli v5 c1_i32_3864
  let v3197 : BitVec 32 := Scalar.addi c0_i32_3865 v3196
  v3197.toNat
def k0_dev77 (d0 : Dev nD) : Nat :=
  let c0_i32_3920 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_3919 : BitVec 32 := 1#32
  let v3239 : BitVec 32 := Scalar.muli v7 c1_i32_3919
  let v3240 : BitVec 32 := Scalar.addi c0_i32_3920 v3239
  v3240.toNat
def k0_dev78 (d0 : Dev nD) : Nat :=
  let c0_i32_3976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_3975 : BitVec 32 := 1#32
  let v3283 : BitVec 32 := Scalar.muli v5 c1_i32_3975
  let v3284 : BitVec 32 := Scalar.addi c0_i32_3976 v3283
  v3284.toNat
def k0_dev79 (d0 : Dev nD) : Nat :=
  let c0_i32_4031 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4030 : BitVec 32 := 1#32
  let v3326 : BitVec 32 := Scalar.muli v7 c1_i32_4030
  let v3327 : BitVec 32 := Scalar.addi c0_i32_4031 v3326
  v3327.toNat
def k0_dev80 (d0 : Dev nD) : Nat :=
  let c0_i32_4087 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4086 : BitVec 32 := 1#32
  let v3370 : BitVec 32 := Scalar.muli v5 c1_i32_4086
  let v3371 : BitVec 32 := Scalar.addi c0_i32_4087 v3370
  v3371.toNat
def k0_dev81 (d0 : Dev nD) : Nat :=
  let c0_i32_4142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4141 : BitVec 32 := 1#32
  let v3413 : BitVec 32 := Scalar.muli v7 c1_i32_4141
  let v3414 : BitVec 32 := Scalar.addi c0_i32_4142 v3413
  v3414.toNat
def k0_dev82 (d0 : Dev nD) : Nat :=
  let c0_i32_4198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4197 : BitVec 32 := 1#32
  let v3457 : BitVec 32 := Scalar.muli v5 c1_i32_4197
  let v3458 : BitVec 32 := Scalar.addi c0_i32_4198 v3457
  v3458.toNat
def k0_dev83 (d0 : Dev nD) : Nat :=
  let c0_i32_4253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4252 : BitVec 32 := 1#32
  let v3500 : BitVec 32 := Scalar.muli v7 c1_i32_4252
  let v3501 : BitVec 32 := Scalar.addi c0_i32_4253 v3500
  v3501.toNat
def k0_dev84 (d0 : Dev nD) : Nat :=
  let c0_i32_4309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4308 : BitVec 32 := 1#32
  let v3544 : BitVec 32 := Scalar.muli v5 c1_i32_4308
  let v3545 : BitVec 32 := Scalar.addi c0_i32_4309 v3544
  v3545.toNat
def k0_dev85 (d0 : Dev nD) : Nat :=
  let c0_i32_4364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4363 : BitVec 32 := 1#32
  let v3587 : BitVec 32 := Scalar.muli v7 c1_i32_4363
  let v3588 : BitVec 32 := Scalar.addi c0_i32_4364 v3587
  v3588.toNat
def k0_dev86 (d0 : Dev nD) : Nat :=
  let c0_i32_4420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4419 : BitVec 32 := 1#32
  let v3631 : BitVec 32 := Scalar.muli v5 c1_i32_4419
  let v3632 : BitVec 32 := Scalar.addi c0_i32_4420 v3631
  v3632.toNat
def k0_dev87 (d0 : Dev nD) : Nat :=
  let c0_i32_4475 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4474 : BitVec 32 := 1#32
  let v3674 : BitVec 32 := Scalar.muli v7 c1_i32_4474
  let v3675 : BitVec 32 := Scalar.addi c0_i32_4475 v3674
  v3675.toNat
def k0_dev88 (d0 : Dev nD) : Nat :=
  let c0_i32_4531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4530 : BitVec 32 := 1#32
  let v3718 : BitVec 32 := Scalar.muli v5 c1_i32_4530
  let v3719 : BitVec 32 := Scalar.addi c0_i32_4531 v3718
  v3719.toNat
def k0_dev89 (d0 : Dev nD) : Nat :=
  let c0_i32_4586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4585 : BitVec 32 := 1#32
  let v3761 : BitVec 32 := Scalar.muli v7 c1_i32_4585
  let v3762 : BitVec 32 := Scalar.addi c0_i32_4586 v3761
  v3762.toNat
def k0_dev90 (d0 : Dev nD) : Nat :=
  let c0_i32_4642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4641 : BitVec 32 := 1#32
  let v3805 : BitVec 32 := Scalar.muli v5 c1_i32_4641
  let v3806 : BitVec 32 := Scalar.addi c0_i32_4642 v3805
  v3806.toNat
def k0_dev91 (d0 : Dev nD) : Nat :=
  let c0_i32_4697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4696 : BitVec 32 := 1#32
  let v3848 : BitVec 32 := Scalar.muli v7 c1_i32_4696
  let v3849 : BitVec 32 := Scalar.addi c0_i32_4697 v3848
  v3849.toNat
def k0_dev92 (d0 : Dev nD) : Nat :=
  let c0_i32_4753 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4752 : BitVec 32 := 1#32
  let v3892 : BitVec 32 := Scalar.muli v5 c1_i32_4752
  let v3893 : BitVec 32 := Scalar.addi c0_i32_4753 v3892
  v3893.toNat
def k0_dev93 (d0 : Dev nD) : Nat :=
  let c0_i32_4808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4807 : BitVec 32 := 1#32
  let v3935 : BitVec 32 := Scalar.muli v7 c1_i32_4807
  let v3936 : BitVec 32 := Scalar.addi c0_i32_4808 v3935
  v3936.toNat
def k0_dev94 (d0 : Dev nD) : Nat :=
  let c0_i32_4864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4863 : BitVec 32 := 1#32
  let v3979 : BitVec 32 := Scalar.muli v5 c1_i32_4863
  let v3980 : BitVec 32 := Scalar.addi c0_i32_4864 v3979
  v3980.toNat
def k0_dev95 (d0 : Dev nD) : Nat :=
  let c0_i32_4919 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_4918 : BitVec 32 := 1#32
  let v4022 : BitVec 32 := Scalar.muli v7 c1_i32_4918
  let v4023 : BitVec 32 := Scalar.addi c0_i32_4919 v4022
  v4023.toNat
def k0_dev96 (d0 : Dev nD) : Nat :=
  let c0_i32_4975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_4974 : BitVec 32 := 1#32
  let v4066 : BitVec 32 := Scalar.muli v5 c1_i32_4974
  let v4067 : BitVec 32 := Scalar.addi c0_i32_4975 v4066
  v4067.toNat
def k0_dev97 (d0 : Dev nD) : Nat :=
  let c0_i32_5030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_5029 : BitVec 32 := 1#32
  let v4109 : BitVec 32 := Scalar.muli v7 c1_i32_5029
  let v4110 : BitVec 32 := Scalar.addi c0_i32_5030 v4109
  v4110.toNat
def k0_dev98 (d0 : Dev nD) : Nat :=
  let c0_i32_5086 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_5085 : BitVec 32 := 1#32
  let v4153 : BitVec 32 := Scalar.muli v5 c1_i32_5085
  let v4154 : BitVec 32 := Scalar.addi c0_i32_5086 v4153
  v4154.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | .hbm, ⟨3, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/- The kernel's body as folds over streams. A stream `(d, s)` is direction `d` and block `s` of 128
   rows: its loads, sends and sums use that block of every buffer and no other. This module names the
   parts of the buffers, writes the body's phases as programs in the stream, and states that the
   printed body is those phases run over the streams in order. -/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof

open Cert.KernelIdeal Cert.KernelIdeal.Gen
open Idealize.ShloMosaic Idealize.ShloMosaic.TcCoe
open Idealize.SL.Sem

variable {F : FTy → Type} [FloatOps F]

/-! ## The parts of the buffers -/

/-- Each block lies in its buffer: of two slots, -/
theorem inb2 : ∀ (d : Fin 2) (s : Fin 16) (a : Fin 3),
    (![d.val, 128 * s.val, 0] : Fin 3 → Nat) a + S1x128x1024.size a ≤ S2x2048x1024.size a := by
  decide +kernel

/-- of three slots, -/
theorem inb3 : ∀ (h : Fin 3) (s : Fin 16) (a : Fin 3),
    (![h.val, 128 * s.val, 0] : Fin 3 → Nat) a + S1x128x1024.size a ≤ S3x2048x1024.size a := by
  decide +kernel

/-- in the output; -/
theorem inbO : ∀ (d : Fin 2) (s : Fin 16) (a : Fin 2),
    (![2048 * d.val + 128 * s.val, 0] : Fin 2 → Nat) a + S128x1024.size a ≤ S4096x1024.size a := by
  decide +kernel

/-- and each semaphore in its array: of the loads, -/
theorem inbL : ∀ (d : Fin 2) (s : Fin 16) (a : Fin 2),
    (![d.val, s.val] : Fin 2 → Nat) a + S1x1.size a ≤ S2x16.size a := by
  decide +kernel

/-- of the sends and landings. -/
theorem inbS : ∀ (d : Fin 2) (h : Fin 3) (s : Fin 16) (a : Fin 3),
    (![d.val, h.val, s.val] : Fin 3 → Nat) a + S1x1x1.size a ≤ S2x3x16.size a := by
  decide +kernel

/-- Block `(d, s)` of a buffer of two slots. -/
abbrev r2 (d : Fin 2) (s : Fin 16) : Rect S2x2048x1024 :=
  Rect.unit (s := S2x2048x1024) ![d.val, 128 * s.val, 0] S1x128x1024.size (inb2 d s)

/-- Block `(h, s)` of a buffer of three slots. -/
abbrev r3 (h : Fin 3) (s : Fin 16) : Rect S3x2048x1024 :=
  Rect.unit (s := S3x2048x1024) ![h.val, 128 * s.val, 0] S1x128x1024.size (inb3 h s)

/-- Block `(d, s)` of the output. -/
abbrev rO (d : Fin 2) (s : Fin 16) : Rect S4096x1024 :=
  Rect.unit (s := S4096x1024) ![2048 * d.val + 128 * s.val, 0] S128x1024.size (inbO d s)

/-- The chunk of columns direction `d` loads at device `c`, as the kernel computes it from the
    constants `a` and `b`. -/
def xcol (d : Fin 2) (c : Dev nD) (a b : BitVec 32) : BitVec 32 :=
  match d with
  | 0 => Scalar.muli (Scalar.remsi (Scalar.addi (Scalar.subi (Scalar.addi
      (Scalar.remsi (Scalar.divsi (Dev.word c) 1#32) 4#32) a) b) 4#32) 4#32) 1024#32
  | 1 => Scalar.muli (Scalar.remsi (Scalar.addi (Scalar.addi
      (Scalar.remsi (Scalar.divsi (Dev.word c) 1#32) 4#32) a) b) 4#32) 1024#32

/-- The kernel's constants for the load of hop `j` in direction `d`: `j = 0` is the load of the first
    send, `j = h + 1` the load added to what hop `h` delivers. -/
def xarg (d : Fin 2) (j : Fin 4) : BitVec 32 × BitVec 32 :=
  match j with
  | 0 => (match d with | 0 => 3#32 | 1 => 1#32, 0#32)
  | 1 => (2#32, 0#32)
  | 2 => (2#32, 1#32)
  | 3 => (2#32, 2#32)

/-- The offsets of load `j` of stream `(d, s)` at device `c`. -/
def xoff (c : Dev nD) (d : Fin 2) (s : Fin 16) (j : Fin 4) : Fin 3 → Nat :=
  ![0, 2048 * d.val + 128 * s.val, (xcol d c (xarg d j).1 (xarg d j).2).toNat]

/-- What a load reads lies in the argument. -/
theorem inbX : ∀ (c : Dev nD) (d : Fin 2) (s : Fin 16) (j : Fin 4) (a : Fin 3),
    (xoff c d s j) a + S1x128x1024.size a ≤ S1x4096x4096.size a := by
  decide +kernel

/-- What load `j` of stream `(d, s)` reads at device `c`. -/
abbrev rX (c : Dev nD) (d : Fin 2) (s : Fin 16) (j : Fin 4) : Rect S1x4096x4096 :=
  Rect.unit (s := S1x4096x4096) (xoff c d s j) S1x128x1024.size (inbX c d s j)

/-- The argument, the staging buffer of loads, the buffer the first hop sends from, the output. -/
abbrev mX : Memref sig .tc .hbm S1x4096x4096 .f32 := Memref.whole main_arg0
/-- The staging buffer of the loads. -/
abbrev mStage : Memref sig .tc .vmem S2x2048x1024 .f32 := Memref.whole cc0_scratch0
/-- The buffer the first hop sends from. -/
abbrev mSend : Memref sig .tc .vmem S2x2048x1024 .bf16 := Memref.whole cc0_scratch1
/-- The output. -/
abbrev mOut : Memref sig .tc .vmem S4096x1024 .bf16 := Memref.whole cc0_stg0_0

/-- The landing buffer of direction `d`. -/
def mComm (d : Fin 2) : Memref sig .tc .vmem S3x2048x1024 .bf16 :=
  match d with
  | 0 => Memref.whole cc0_scratch2
  | 1 => Memref.whole cc0_scratch3

/-- A landing buffer is a whole buffer. -/
theorem mComm_isWhole (d : Fin 2) : (mComm d).IsWhole := by
  match d with
  | 0 => exact Memref.isWhole_whole _
  | 1 => exact Memref.isWhole_whole _

/-- The parts as the copies name them. -/
abbrev pX (c : Dev nD) (d : Fin 2) (s : Fin 16) (j : Fin 4) : Memref sig .tc .hbm S128x1024 .f32 :=
  (mX.slice (rX c d s j) (fun _ => rfl)).squeeze S128x1024 squeezes_S1x128x1024_S128x1024
/-- Where the loads of stream `(d, s)` land. -/
abbrev pStage (d : Fin 2) (s : Fin 16) : Memref sig .tc .vmem S128x1024 .f32 :=
  (mStage.slice (r2 d s) (fun _ => rfl)).squeeze S128x1024 squeezes_S1x128x1024_S128x1024
/-- What the first hop of stream `(d, s)` sends from. -/
abbrev pSend (d : Fin 2) (s : Fin 16) : Memref sig .tc .vmem S128x1024 .bf16 :=
  (mSend.slice (r2 d s) (fun _ => rfl)).squeeze S128x1024 squeezes_S1x128x1024_S128x1024
/-- Where hop `h` of stream `(d, s)` lands. -/
abbrev pComm (d : Fin 2) (h : Fin 3) (s : Fin 16) : Memref sig .tc .vmem S128x1024 .bf16 :=
  ((mComm d).slice (r3 h s) (fun _ => rfl)).squeeze S128x1024 squeezes_S1x128x1024_S128x1024

/-- What hop `h` of stream `(d, s)` sends from: the send buffer, then the landing slot before. -/
def pFrom (d : Fin 2) (h : Fin 3) (s : Fin 16) : Memref sig .tc .vmem S128x1024 .bf16 :=
  match h with
  | 0 => pSend d s
  | 1 => pComm d 0 s
  | 2 => pComm d 1 s

/-- The semaphores of a stream: of its loads, of its sends, of its landings. -/
abbrev sLoad (d : Fin 2) (s : Fin 16) : DmaSem sig :=
  ((cc0_scratch4.slice (Rect.unit (s := S2x16) ![d.val, s.val] S1x1.size (inbL d s))).squeeze S_
    squeezes_S1x1_S_).sem
/-- The semaphore of the send of hop `h` of a stream. -/
abbrev sSend (d : Fin 2) (h : Fin 3) (s : Fin 16) : DmaSem sig :=
  ((cc0_scratch5.slice (Rect.unit (s := S2x3x16) ![d.val, h.val, s.val] S1x1x1.size (inbS d h s))).squeeze
    S_ squeezes_S1x1x1_S_).sem
/-- The semaphore of the landing of hop `h` of a stream. -/
abbrev sRecv (d : Fin 2) (h : Fin 3) (s : Fin 16) : DmaSem sig :=
  ((cc0_scratch6.slice (Rect.unit (s := S2x3x16) ![d.val, h.val, s.val] S1x1x1.size (inbS d h s))).squeeze
    S_ squeezes_S1x1x1_S_).sem
/-- The barrier's semaphore. -/
abbrev sBar : Sem sig := (SemArray.scalar (sig.barrier 0 rfl) : Sems sig S_).sem

/-- The neighbour direction `d` sends to, as the kernel computes it: the next device, the one before. -/
def peer (d : Fin 2) (c : Dev nD) : Dev nD :=
  match d with
  | 0 => ⟨k0_dev2 c, k0_dev2_lt c⟩
  | 1 => ⟨k0_dev1 c, k0_dev1_lt c⟩

/-! ## Evidence of the effects -/

/-- A block of two slots' buffer covers whole words, -/
theorem words2 : ∀ (d : Fin 2) (s : Fin 16), (r2 d s).WholeWords (EltTy.packing .bf16) := by decide +kernel
/-- and so does a block of a landing buffer. -/
theorem words3 : ∀ (h : Fin 3) (s : Fin 16), (r3 h s).WholeWords (EltTy.packing .bf16) := by decide +kernel
/-- The rows of each block are packed: of the send buffer, -/
theorem packed2 : ∀ (d : Fin 2) (s : Fin 16), (r2 d s).PackedRows (EltTy.packing .bf16) := by decide +kernel
/-- of a landing buffer, -/
theorem packed3 : ∀ (h : Fin 3) (s : Fin 16), (r3 h s).PackedRows (EltTy.packing .bf16) := by decide +kernel
/-- of the output. -/
theorem packedO : ∀ (d : Fin 2) (s : Fin 16), (rO d s).PackedRows (EltTy.packing .bf16) := by decide +kernel

/-- Where a hop lands covers whole words exactly, -/
theorem exactComm (d : Fin 2) (h : Fin 3) (s : Fin 16) : (pComm d h s).view.WordExact :=
  ((mComm_isWhole d).wordExact_slice rfl _ (words3 h s)).reshape _ _

/-- and so does what it sends from. -/
theorem exactFrom (d : Fin 2) (h : Fin 3) (s : Fin 16) : (pFrom d h s).view.WordExact := by
  match h with
  | 0 => exact ((Memref.isWhole_whole _).wordExact_slice rfl _ (words2 d s)).reshape _ _
  | 1 => exact exactComm d 0 s
  | 2 => exact exactComm d 1 s

/-! ## The values a step computes -/

/-- A loaded block narrowed. -/
abbrev narrow (v : Vec F S1x128x1024 .f32) : FVec F S128x1024 .bf16 :=
  truncf .bf16 (shapeCast S128x1024 v shapeCasts_S1x128x1024_S128x1024) bitsLt_bf16_f32

/-- A landed block plus a loaded block narrowed. -/
abbrev accum (u : Vec F S1x128x1024 .bf16) (v : Vec F S1x128x1024 .f32) : FVec F S128x1024 .bf16 :=
  addf (shapeCast S128x1024 u shapeCasts_S1x128x1024_S128x1024) (narrow v)

/-! ## The phases -/

/-- The kernel's programs. -/
abbrev Body (F : FTy → Type) [FloatOps F] := Prog (TpuEff nD τ sig (Elt F) Λ₀ .tc) PUnit

/-- Start load `j`. -/
abbrev startLoad (c : Dev nD) (j : Fin 4) (d : Fin 2) (s : Fin 16) (k : Body F) : Body F :=
  .op (.enqueueDma (pX c d s j) (.here (pStage d s)) (.dma (sLoad d s))
    ((View.wordExact_bits rfl).reshape _ _) ((View.wordExact_bits rfl).reshape _ _) ⟨Or.inl rfl, trivial⟩)
    fun _ => k

/-- Wait for load `j`. -/
abbrev waitLoad (c : Dev nD) (j : Fin 4) (d : Fin 2) (s : Fin 16) (k : Body F) : Body F :=
  .op (.waitDma2 (sLoad d s) (pX c d s j) (pStage d s)
    ((View.wordExact_bits rfl).reshape _ _) ((View.wordExact_bits rfl).reshape _ _))
    fun _ => k

/-- Start the send of hop `h`. -/
abbrev startSend (c : Dev nD) (h : Fin 3) (d : Fin 2) (s : Fin 16) (k : Body F) : Body F :=
  .op (.enqueueDma (pFrom d h s) (.remote (Dev.tc (peer d c)) (pComm d h s) (.dma (sSend d h s)))
    (.dma (sRecv d h s)) (exactFrom d h s) (exactComm d h s) ⟨⟨rfl, Or.inl rfl⟩, trivial⟩)
    fun _ => k

/-- Wait for the landing of hop `h`, -/
abbrev waitRecv (h : Fin 3) (d : Fin 2) (s : Fin 16) (k : Body F) : Body F :=
  .op (.waitDma2 (sRecv d h s) (pFrom d h s) (pComm d h s) (exactFrom d h s) (exactComm d h s))
    fun _ => k

/-- and for its send. -/
abbrev waitSend (h : Fin 3) (d : Fin 2) (s : Fin 16) (k : Body F) : Body F :=
  .op (.waitDma2 (sSend d h s) (pComm d h s) (pFrom d h s) (exactComm d h s) (exactFrom d h s))
    fun _ => k

/-- Read the loaded block, -/
abbrev readStage (d : Fin 2) (s : Fin 16) (k : Vec F S1x128x1024 .f32 → Body F) : Body F :=
  .op (.load mStage (r2 d s).toLoadRect (View.loadsAt_vmem h_S1x128x1024)) k

/-- the landed block, -/
abbrev readComm (d : Fin 2) (h : Fin 3) (s : Fin 16) (k : Vec F S1x128x1024 .bf16 → Body F) : Body F :=
  .op (.load (mComm d) (r3 h s).toLoadRect (View.loadsAt_vmem h_S1x128x1024)) k

/-- the block to send. -/
abbrev readSend (d : Fin 2) (s : Fin 16) (k : Vec F S1x128x1024 .bf16 → Body F) : Body F :=
  .op (.load mSend (r2 d s).toLoadRect (View.loadsAt_vmem h_S1x128x1024)) k

/-- The first phase of a stream: start the load of the block it sends first. -/
def phase0 (c : Dev nD) (d : Fin 2) (s : Fin 16) (k : Body F) : Body F := startLoad c 0 d s k

/-- The barrier: signal both neighbours, wait for both. -/
def barrier (c : Dev nD) (k : Body F) : Body F :=
  .op (.semSignal (peer 1 c : Thread nD τ) sBar (1#32 : BitVec 32).toInt) fun _ =>
  .op (.semSignal (peer 0 c : Thread nD τ) sBar (1#32 : BitVec 32).toInt) fun _ =>
  .op (.semWait sBar (2#32 : BitVec 32).toInt) fun _ => k

/-- The second: narrow the loaded block into the send buffer, send it, start the next load. -/
def phase1 (c : Dev nD) (d : Fin 2) (s : Fin 16) (k : Body F) : Body F :=
  waitLoad c 0 d s <| readStage d s fun v => readSend d s fun _ =>
  .op (.store mSend (r2 d s) (shapeCast S1x128x1024 (narrow v) shapeCasts_S128x1024_S1x128x1024) Finset.univ
    (View.stores_vmem h_S1x128x1024 ((Memref.isWhole_whole _).storeExact_slice rfl _ (packed2 d s))
      (fun _ => rfl)) (.inl rfl)) fun _ =>
  startSend c 0 d s <| startLoad c 1 d s k

/-- A hop that forwards: add the loaded block to the landed one, send it on, start the next load. -/
def phaseHop (h : Fin 2) (c : Dev nD) (d : Fin 2) (s : Fin 16) (k : Body F) : Body F :=
  waitRecv h.castSucc d s <| waitLoad c h.castSucc.succ d s <| readComm d h.castSucc s fun u => readStage d s fun v =>
  readComm d h.castSucc s fun _ =>
  .op (.store (mComm d) (r3 h.castSucc s) (shapeCast S1x128x1024 (accum u v) shapeCasts_S128x1024_S1x128x1024)
    Finset.univ (View.stores_vmem h_S1x128x1024 ((mComm_isWhole d).storeExact_slice rfl _ (packed3 h.castSucc s))
      (fun _ => rfl)) (.inl rfl)) fun _ =>
  startSend c h.succ d s <| startLoad c h.succ.succ d s k

/-- The last hop: add the loaded block to the landed one into the output. -/
def phaseLast (c : Dev nD) (d : Fin 2) (s : Fin 16) (k : Body F) : Body F :=
  waitRecv 2 d s <| waitLoad c 3 d s <| readComm d 2 s fun u => readStage d s fun v =>
  .op (.load mOut (rO d s).toLoadRect (View.loadsAt_vmem h_S128x1024)) fun _ =>
  .op (.store mOut (rO d s) (accum u v) Finset.univ
    (View.stores_vmem h_S128x1024 ((Memref.isWhole_whole _).storeExact_slice rfl _ (packedO d s))
      (fun _ => rfl)) (.inl rfl)) fun _ => k

/-! ## The body -/

/-- The blocks in order. -/
def blocks : List (Fin 16) := [0, 1, 2, 3, 4, 5, 6, 7, 8, 9, 10, 11, 12, 13, 14, 15]

/-- The streams by direction, then block; -/
def byDir : List (Fin 2 × Fin 16) := blocks.map (fun s => (0, s)) ++ blocks.map (fun s => (1, s))

/-- and by block, then direction. -/
def byBlock : List (Fin 2 × Fin 16) := blocks.flatMap fun s => [(0, s), (1, s)]

/-- A phase over the streams in order. -/
def over (L : List (Fin 2 × Fin 16)) (ph : Fin 2 → Fin 16 → Body F → Body F) (k : Body F) : Body F :=
  L.foldr (fun q k => ph q.1 q.2 k) k

/-- The body at device `c`. -/
def bodyAt (c : Dev nD) : Body F :=
  over byDir (phase0 c) <| barrier c <| over byBlock (phase1 c) <|
  over byBlock (phaseHop 0 c) <| over byBlock (phaseHop 1 c) <| over byBlock (phaseLast c) <|
  over byBlock (waitSend 0) <| over byBlock (waitSend 1) <| over byBlock (waitSend 2) <| .ret ⟨⟩

/-- The body: read the device, run there. -/
def bodyGen : Body F := .op .deviceId fun c => bodyAt c

/-- The printed body is the phases in order. -/
theorem cc0_body_eq (h1 : mOut.IsWhole) :
    (cc0_body mX (Memref.isWhole_whole _) mOut h1 mStage (Memref.isWhole_whole _) mSend
      (Memref.isWhole_whole _) (mComm 0) (Memref.isWhole_whole _) (mComm 1) (Memref.isWhole_whole _)
      cc0_scratch4 cc0_scratch5 cc0_scratch6 : Body F) = bodyGen := by
  chain_rfl

end Cert.Proof

end
-- ==== Proof.Parts.lean ====
/- Ownership of the parts of the buffers. A part is a rectangle of a buffer named by its block of 128
   rows; the kernel reads and writes it as a rectangle of the buffer and copies it as a memref of its
   own. This module states what a load, a store, a local copy and the wait for it do to the ownership
   of a part. -/
module

public import proofs.«01_k».proof.Proof.Prog
public import Idealize.ShloMosaic.Lib.Transfers
public import Idealize.ShloMosaic.Lib.Memref
public import Idealize.ShloMosaic.Lib.Rounds

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The schedule's rounds, -/
abbrev UB : Type := URounds (GSem nD τ sig) (Fin 2)
/-- beside the pipeline's, and the counters of the local copies. -/
abbrev UU : Type := UR sig nD τ × (UB × Counters)

local notation "𝕄" => MT nD τ sig Unit (Elt F) ℕ UU ℕ

/-- Where the pipeline's rounds lie in the resources. -/
abbrev EP : Emb (UR sig nD τ) (MT nD τ sig Unit (Elt F) ℕ UU ℕ) := embL
/-- Where the schedule's rounds lie. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- They lie in the user's part of the resources. -/
instance ER_landsIn : (ER : Emb UB 𝕄).LandsIn (upEmb : UEmb _ 𝕄) := by unfold ER; infer_instance

/-- No variants: the body has no loop. -/
abbrev 𝒱₀ : Variants := Variants.none

/-- The weakest precondition of a program of device `c`. -/
abbrev wpAt (c : Dev nD) (p : Body F) (Q : PUnit.{1} → sProp 𝕄) : sProp 𝕄 :=
  wp frame (wpE (defs₀ (F := F)) 𝒱₀ (c : Thread nD τ) none) Set.univ p Q

/-- Device `c` owns a memref at contents `X`. -/
abbrev own1 (c : Dev nD) {sp : Space} {s : Shape} {e : EltTy} (m : Memref sig .tc sp s e)
    (X : s.Idx → Elt F e) : sProp 𝕄 := ownsTc c m fullShare X

/-- Device `c` owns a memref at some contents. -/
abbrev own0 (c : Dev nD) {sp : Space} {s : Shape} {e : EltTy} (m : Memref sig .tc sp s e) : sProp 𝕄 :=
  iprop(∃ X, own1 (F := F) c m X)

variable (c : Dev nD)
variable {Q : PUnit.{1} → sProp (MT nD τ sig Unit (Elt F) ℕ UU ℕ)}

/-! ## Loads and stores of a rectangle -/

section Rect

variable {sh s' : Shape} {e : EltTy} (M : Memref sig .tc .vmem sh e) (r : Rect sh)
  (hr : ∀ a, r.stride a = 1) (hq : r.shape.Squeezes s') (hc : r.shape.ShapeCasts s')

/-- Loading a rectangle reads, in the part's own shape, what the part holds. -/
theorem wp_readPart {hl : M.view.LoadsAt r.toLoadRect} {k : (r.shape.Idx → Elt F e) → Body F}
    (X : s'.Idx → Elt F e) :
    own1 c ((M.slice r hr).squeeze s' hq) X
      ⊢ iprop((∀ v, ⌜shapeCast s' v hc = X⌝ -∗ own1 c ((M.slice r hr).squeeze s' hq) X -∗ wpAt c (k v) Q)
          -∗ wpAt c (.op (.load M r.toLoadRect hl) k) Q) := by
  unfold own1 ownsTc owns
  iintro ⟨%f, %hf, H⟩ Hk
  iapply (wp_load_rect 𝒱₀ (c : Thread nD τ) none Set.univ (m := M) (r := r)
    (by rw [View.set_reshape])) $$ H
  iintro H
  iapply Hk
  · ipureintro; exact hf
  iexists f
  isplitr; · ipureintro; exact hf
  iexact H

/-- A load whose result is dropped. -/
theorem wp_peekPart {hl : M.view.LoadsAt r.toLoadRect} {k : Body F} :
    own0 c ((M.slice r hr).squeeze s' hq)
      ⊢ iprop((own0 c ((M.slice r hr).squeeze s' hq) -∗ wpAt c k Q)
          -∗ wpAt c (.op (.load M r.toLoadRect hl) fun _ => k) Q) := by
  iintro ⟨%X, H⟩ Hk
  iapply (wp_readPart c M r hr hq hq.numel_eq X) $$ H
  iintro %v - H
  iapply Hk
  iexists X; iexact H

/-- Storing a rectangle leaves the part at what is stored, in the part's own shape. -/
theorem wp_writePart {w : s'.Idx → Elt F e} (hc' : s'.ShapeCasts r.shape)
    {hx : (M.access r).Stores Finset.univ} {hm : (Finset.univ : Finset r.shape.Idx) = Finset.univ ∨ ∀ a, r.stride a = 1} {k : Body F} :
    own0 c ((M.slice r hr).squeeze s' hq)
      ⊢ iprop((own1 c ((M.slice r hr).squeeze s' hq) w -∗ wpAt c k Q)
          -∗ wpAt c (.op (.store M r (shapeCast r.shape w hc') Finset.univ hx hm) fun _ => k) Q) := by
  unfold own0 own1 ownsTc owns
  iintro ⟨%X, %f, %hf, H⟩ Hk
  iapply (wp_store 𝒱₀ (c : Thread nD τ) none Set.univ (m := M) (r := r) (Mk := Finset.univ)
    (by rw [View.set_reshape]; exact View.setOn_subset_set _ _)) $$ H
  iintro H
  iapply Hk
  iexists _
  isplitr
  rotate_left
  · iexact H
  ipureintro
  funext x
  show (M.access r).read (Elt F) _ (Shape.reshapeEquiv _ x) = _
  rw [View.read_write_univ]
  show w (Shape.reshapeEquiv _ (Shape.reshapeEquiv _ x)) = w x
  rw [Shape.reshapeEquiv_reshapeEquiv, Shape.reshapeEquiv_self]

/-- Storing a rectangle as a slice of the buffer. -/
theorem wp_writeSlice {w : r.shape.Idx → Elt F e}
    {hx : (M.access r).Stores Finset.univ} {hm : (Finset.univ : Finset r.shape.Idx) = Finset.univ ∨ ∀ a, r.stride a = 1} {k : Body F} :
    own0 c (M.slice r hr)
      ⊢ iprop((own1 c (M.slice r hr) w -∗ wpAt c k Q)
          -∗ wpAt c (.op (.store M r w Finset.univ hx hm) fun _ => k) Q) := by
  unfold own0 own1 ownsTc owns
  iintro ⟨%X, %f, %hf, H⟩ Hk
  iapply (wp_store 𝒱₀ (c : Thread nD τ) none Set.univ (m := M) (r := r) (Mk := Finset.univ)
    (View.setOn_subset_set _ _)) $$ H
  iintro H
  iapply Hk
  iexists _
  isplitr
  rotate_left
  · iexact H
  ipureintro
  exact View.read_write_univ _ _

/-- A load of a slice whose result is dropped. -/
theorem wp_peekSlice {hl : M.view.LoadsAt r.toLoadRect} {k : Body F} :
    own0 c (M.slice r hr)
      ⊢ iprop((own0 c (M.slice r hr) -∗ wpAt c k Q)
          -∗ wpAt c (.op (.load M r.toLoadRect hl) fun _ => k) Q) := by
  unfold own0 own1 ownsTc owns
  iintro ⟨%X, %f, %hf, H⟩ Hk
  iapply (wp_load_rect 𝒱₀ (c : Thread nD τ) none Set.univ (m := M) (r := r) subset_rfl) $$ H
  iintro H
  iapply Hk
  iexists X, f
  isplitr; · ipureintro; exact hf
  iexact H

end Rect

/-! ## Local copies -/

/-- The load of a stream in flight: it will deliver `X` into the staging block and give back what it
    reads from. -/
abbrev inFlight (c : Dev nD) (d : Fin 2) (s : Fin 16) (D : sProp 𝕄) : sProp 𝕄 :=
  Transfers.Flight countersEmb (c : Thread nD τ) (.dma (sLoad d s)) () (pStage d s).view.dmaCredit D

/-- Starting load `j`: from a share of what it reads, the staging block and the semaphore at zero, the
    load in flight. -/
theorem wp_startLoad (j : Fin 4) (d : Fin 2) (s : Fin 16) (q : PosShare TreeShare)
    (X : S128x1024.Idx → Elt F .f32) {k : Body F} :
    iprop(ownsTc c (pX c d s j) q X ∗ own0 c (pStage d s) ∗ semVal ((c : Thread nD τ), SemLoc.dma (sLoad d s)) 0)
      ⊢ iprop((inFlight c d s iprop(own1 c (pStage d s) X ∗ ownsTc c (pX c d s j) q X) -∗ wpAt c k Q)
          -∗ wpAt c (startLoad c j d s k) Q) := by
  unfold own0 own1 ownsTc owns
  iintro ⟨⟨%f, %hf, Hx⟩, ⟨%Y, %g, %hg, Hs⟩, Hv⟩ Hk
  iapply (Transfers.wp_dmaLocal countersEmb 𝒱₀ (c : Thread nD τ) none (src := pX c d s j) (dst := pStage d s)
    (sm := .dma (sLoad d s)) (via := .same) () (pStage d s).view.dmaCredit rfl
    (View.dmaCredit_pos _ (by decide)) subset_rfl) $$ [Hx Hs Hv]
  · isplitl [Hx]; · iexact Hx
    isplitl [Hs] <;> iassumption
  iintro Hf
  iapply Hk
  iapply (Transfers.Flight_mono (D := iprop(_ ∗ _)) countersEmb (c : Thread nD τ) (D' := iprop(_ ∗ _)) _) $$ Hf
  refine BIClass.sep_mono ?_ ?_
  · iintro H
    iexists _
    isplitr
    rotate_left
    · iexact H
    ipureintro
    rw [View.read_write_univ]; exact hf
  · iintro H
    iexists f
    isplitr; · ipureintro; exact hf
    iexact H

/-- Waiting for load `j`: what was in flight is delivered, the semaphore at zero again. -/
theorem wp_waitLoad (j : Fin 4) (d : Fin 2) (s : Fin 16) (D : sProp 𝕄)
    (O : CellTallies nD τ sig Unit) (W : Waits sig Unit) {k : Body F} :
    iprop(inFlight c d s D ∗ owes (c : Thread nD τ) O W ∗ MayWait (c : Thread nD τ) (.dma (sLoad d s)) () O)
      ⊢ iprop((iprop(D ∗ semVal ((c : Thread nD τ), SemLoc.dma (sLoad d s)) 0
            ∗ owes (c : Thread nD τ) O (insert (SemLoc.dma (sLoad d s), ()) W)) -∗ wpAt c k Q)
          -∗ wpAt c (waitLoad c j d s k) Q) := by
  iintro H Hk
  iapply (Transfers.wp_waitLocalO countersEmb 𝒱₀ (c : Thread nD τ) none (srcw := pX c d s j) (dstw := pStage d s)
    (sem := sLoad d s) () rfl) $$ H
  iexact Hk

end Cert.Proof

end
-- ==== Proof.Sched.lean ====
/- The protocol. Each device's cells are the barrier's, and one send and one landing semaphore for each
   hop of each stream. Every cell has one round. Both neighbours raise the barrier cell by one, each
   handing over the landing blocks its neighbour is to send into. The copy of a hop raises the landing
   cell of its destination, handing over the landed block at the value sent, and the send cell of its
   source, handing back the block sent from. -/
module

public import proofs.«01_k».proof.Proof.Parts

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Streams, cells, neighbours -/

/-- A stream: a direction and a block. -/
abbrev Str : Type := Fin 2 × Fin 16

/-- The cells of a device: the barrier's, the send cells, the landing cells, by hop and stream. -/
abbrev CK : Type := Unit ⊕ (Fin 3 × Str) ⊕ (Fin 3 × Str)

/-- The scoped semaphores of a device: of the loads, the sends and the landings. -/
abbrev OK : Type := Str ⊕ (Fin 3 × Str) ⊕ (Fin 3 × Str)

instance : DecidableEq (Dev nD × CK) := instDecidableEqProd

/-- The semaphore of an index. -/
def osem : OK → SemLoc sig
  | .inl q => .dma (sLoad q.1 q.2)
  | .inr (.inl hq) => .dma (sSend hq.2.1 hq.1 hq.2.2)
  | .inr (.inr hq) => .dma (sRecv hq.2.1 hq.1 hq.2.2)

/-- The semaphore of a cell. -/
def csem : CK → SemLoc sig
  | .inl _ => .reg sBar
  | .inr (.inl hq) => .dma (sSend hq.2.1 hq.1 hq.2.2)
  | .inr (.inr hq) => .dma (sRecv hq.2.1 hq.1 hq.2.2)

/-- The numbers of the semaphores: of the loads, -/
theorem sLoad_val : ∀ (d : Fin 2) (s : Fin 16), (sLoad d s).val = 1 + (16 * d.val + s.val) := by
  decide +kernel
/-- of the sends, -/
theorem sSend_val : ∀ (d : Fin 2) (h : Fin 3) (s : Fin 16),
    (sSend d h s).val = 33 + (48 * d.val + 16 * h.val + s.val) := by decide +kernel
/-- of the landings. -/
theorem sRecv_val : ∀ (d : Fin 2) (h : Fin 3) (s : Fin 16),
    (sRecv d h s).val = 129 + (48 * d.val + 16 * h.val + s.val) := by decide +kernel

/-- Equal semaphores have equal numbers. -/
theorem dma_val {a b : DmaSem sig} (h : (SemLoc.dma a : SemLoc sig) = .dma b) : a.val = b.val := by
  cases h; rfl

/-- The scoped semaphores are all different, -/
theorem osem_injective : Function.Injective osem := by
  rintro (⟨d, s⟩ | ⟨h, d, s⟩ | ⟨h, d, s⟩) (⟨d', s'⟩ | ⟨h', d', s'⟩ | ⟨h', d', s'⟩) e
  all_goals
    have e := dma_val e
    simp only [sLoad_val, sSend_val, sRecv_val] at e
  · have : d = d' := by omega
    have : s = s' := by omega
    subst_vars; rfl
  · omega
  · omega
  · omega
  · have : d = d' := by omega
    have : h = h' := by omega
    have : s = s' := by omega
    subst_vars; rfl
  · omega
  · omega
  · omega
  · have : d = d' := by omega
    have : h = h' := by omega
    have : s = s' := by omega
    subst_vars; rfl

/-- and so are the cells' semaphores. -/
theorem csem_injective : Function.Injective csem := by
  rintro (u | k) (u' | k') e
  · rfl
  · rcases k' with k' | k' <;> cases e
  · rcases k with k | k <;> cases e
  · have : (Sum.inr k : OK) = Sum.inr k' := osem_injective (by
      rcases k with k | k <;> rcases k' with k' | k' <;> exact e)
    rw [Sum.inr.inj this]

/-- The index of a semaphore among the cells, if it is one. -/
def look : SemLoc sig → Option CK := Function.partialInv csem

/-- A cell's semaphore is found among the cells. -/
theorem look_csem (k : CK) : look (csem k) = some k := Function.partialInv_left csem_injective k

/-- A semaphore of no cell is not found, -/
theorem look_none {sm : SemLoc sig} (h : ∀ k, csem k ≠ sm) : look sm = none :=
  dif_neg fun ⟨k, hk⟩ => h k hk

/-- such as a load's. -/
theorem look_load (q : Str) : look (.dma (sLoad q.1 q.2)) = none := look_none fun k e => by
  rcases k with k | k | k
  · cases e
  · exact absurd (osem_injective (a₁ := .inr (.inl k)) (a₂ := .inl q) e) (by simp)
  · exact absurd (osem_injective (a₁ := .inr (.inr k)) (a₂ := .inl q) e) (by simp)

/-- Cell `k` of device `c`. -/
abbrev cell (c : Dev nD) (k : CK) : GSem nD τ sig := ((c : Thread nD τ), csem k)
/-- The barrier's cell of a device. -/
abbrev barCell (c : Dev nD) : GSem nD τ sig := cell c (.inl ())
/-- The send cell of hop `h` of stream `q`. -/
abbrev sendCell (c : Dev nD) (h : Fin 3) (q : Str) : GSem nD τ sig := cell c (.inr (.inl (h, q)))
/-- The landing cell of hop `h` of stream `q`. -/
abbrev recvCell (c : Dev nD) (h : Fin 3) (q : Str) : GSem nD τ sig := cell c (.inr (.inr (h, q)))

/-- The opposite direction. -/
def opp : Fin 2 → Fin 2 := ![1, 0]

/-- The neighbour that sends to `c` in direction `d`. -/
def src (d : Fin 2) (c : Dev nD) : Dev nD := peer (opp d) c

/-- The neighbour that sends to `c` has `c` as the one it sends to, -/
theorem peer_src : ∀ (d : Fin 2) (c : Dev nD), peer d (src d c) = c := by decide +kernel
/-- and the other way round. -/
theorem src_peer : ∀ (d : Fin 2) (c : Dev nD), src d (peer d c) = c := by decide +kernel

/-- The neighbours of a direction, as a permutation of the devices. -/
def ring (d : Fin 2) : Dev nD ≃ Dev nD := ⟨peer d, src d, src_peer d, peer_src d⟩

/-! ## The credit of a block -/

/-- What a copied block of the landing buffers credits. -/
abbrev N : ℕ := (pSend 0 0).view.dmaCredit
/-- A block credits something. -/
theorem N_pos : 0 < N := View.dmaCredit_pos _ (by decide)

/-- Every landing block credits the same, -/
theorem credit_comm (d : Fin 2) (h : Fin 3) (s : Fin 16) : (pComm d h s).view.dmaCredit = N := by
  match d with
  | 0 => rfl
  | 1 => rfl

/-- and so does every block sent from. -/
theorem credit_from (d : Fin 2) (h : Fin 3) (s : Fin 16) : (pFrom d h s).view.dmaCredit = N := by
  match h with
  | 0 => rfl
  | 1 => exact credit_comm d 0 s
  | 2 => exact credit_comm d 1 s

/-! ## Contents -/

/-- A block of values. -/
abbrev Blk (F : FTy → Type) (e : EltTy) : Type := S128x1024.Idx → Elt F e

variable (x : (c : Dev nD) → Buf (Elt F) ((c : Thread nD τ).loc main_arg0))

/-- What load `j` of stream `q` reads at device `c`. -/
def xv (c : Dev nD) (j : Fin 4) (q : Str) : Blk F .f32 := (pX c q.1 q.2 j).view.read (Elt F) (x c)

/-- A block narrowed. -/
abbrev trunc (X : FVec F S128x1024 .f32) : FVec F S128x1024 .bf16 := truncf .bf16 X bitsLt_bf16_f32

/-- What device `c` holds of stream `q` after adding its own block to what the `n` devices before it
    added up: what it sends at hop `n`, and for `n = 3` its result. -/
def val (q : Str) : ℕ → Dev nD → Blk F .bf16
  | 0, c => trunc (xv x c 0 q)
  | n + 1, c => addf (val q n (src q.1 c) : FVec F S128x1024 .bf16) (trunc (xv x c (Fin.ofNat 4 (n + 1)) q))

omit [FloatOps F] in
/-- The load after hop `h` is the next one. -/
theorem ofNat_succ : ∀ h : Fin 3, Fin.ofNat 4 (h.val + 1) = h.succ := by decide

/-- After hop `h` a device holds what came, with its own next block added. -/
theorem val_succ (q : Str) (h : Fin 3) (c : Dev nD) : val x q (h.val + 1) c
    = addf (val x q h.val (src q.1 c) : FVec F S128x1024 .bf16) (trunc (xv x c h.succ q)) := by
  rw [← ofNat_succ]; rfl

/-! ## The schedule -/

/-- The landing blocks of direction `d` of device `c`, at any contents. -/
def commAny (d : Fin 2) (c : Dev nD) : sProp 𝕄 :=
  bigSep Finset.univ fun h : Fin 3 => bigSep Finset.univ fun s : Fin 16 => own0 (F := F) c (pComm d h s)

/-- The duties of a cell. -/
def duties : CK → Finset (Fin 2)
  | .inl _ => Finset.univ
  | .inr _ => {0}

/-- The units a duty of a cell raises it by. -/
def amount : CK → ℕ
  | .inl _ => 1
  | .inr _ => N

/-- What a duty of a cell of device `c` hands over. -/
def payload (c : Dev nD) (d : Fin 2) : CK → sProp 𝕄
  | .inl _ => commAny d (peer d c)
  | .inr (.inl (h, q)) => own1 c (pFrom q.1 h q.2) (val x q h.val c)
  | .inr (.inr (h, q)) => own1 c (pComm q.1 h q.2) (val x q h.val (src q.1 c))

/-- What a duty hands over may be kept in an invariant. -/
instance payload_storable (c : Dev nD) (d : Fin 2) (k : CK) :
    BI.Storable (upEmb : UEmb _ 𝕄) (payload x c d k) := by
  rcases k with k | ⟨h, q⟩ | ⟨h, q⟩
  · show BI.Storable upEmb (commAny d (peer d c)); unfold commAny; infer_instance
  · show BI.Storable upEmb (own1 c (pFrom q.1 h q.2) (val x q h.val c)); infer_instance
  · show BI.Storable upEmb (own1 c (pComm q.1 h q.2) (val x q h.val (src q.1 c))); infer_instance

/-- The schedule: one round. -/
def Rd : Rounds.Schedule (GSem nD τ sig) (Fin 2) 𝕄 where
  duties g r := if r = 0 ∧ g.1.2 = .tc then (look g.2).elim ∅ duties else ∅
  unitless _ := False
  amount g _ _ := (look g.2).elim 1 amount
  payload g _ d := (look g.2).elim iprop(emp) (payload x g.1.1 d)
  amount_pos g _ _ _ := by
    rcases look g.2 with _ | k | k
    · exact Nat.one_pos
    · exact Nat.one_pos
    · exact N_pos

/-- The same of the schedule's payloads. -/
instance Rd_payload_storable (g : GSem nD τ sig) (r : ℕ) (d : Fin 2) :
    BI.Storable (upEmb : UEmb _ 𝕄) ((Rd x).payload g r d) := by
  show BI.Storable upEmb ((look g.2).elim iprop(emp) (payload x g.1.1 d))
  rcases look g.2 with _ | k
  · show BI.Storable upEmb iprop(emp); infer_instance
  · exact payload_storable x g.1.1 d k

/-- The schedule's duties at a cell are the cell's, -/
theorem duties_eq (c : Dev nD) (k : CK) : (Rd x).duties (cell c k) 0 = duties k := by
  show (if (0 : ℕ) = 0 ∧ (Proc.tc : Proc τ) = .tc then (look (csem k)).elim ∅ duties else ∅) = _
  rw [if_pos ⟨rfl, rfl⟩, look_csem]; rfl

/-- and so are the units they raise it by, -/
theorem amount_eq (c : Dev nD) (k : CK) (r : ℕ) (d : Fin 2) : (Rd x).amount (cell c k) r d = amount k := by
  show (look (csem k)).elim 1 amount = _
  rw [look_csem]; rfl

/-- and what they hand over. -/
theorem payload_eq (c : Dev nD) (k : CK) (r : ℕ) (d : Fin 2) :
    (Rd x).payload (cell c k) r d = payload x c d k := by
  show (look (csem k)).elim iprop(emp) (payload x c d) = _
  rw [look_csem]; rfl

/-- There is no round after the first. -/
theorem duties_later (g : GSem nD τ sig) : ∀ r, 0 + 1 ≤ r → (Rd x).duties g r = ∅ :=
  fun r hr => if_neg fun h => by omega

/-- The barrier expects two units, -/
theorem expect_bar (c : Dev nD) : (Rd x).expect (barCell c) 0 = 2 := by
  unfold Schedule.expect Schedule.amountOf
  rw [duties_eq, Finset.sum_congr rfl fun d _ => amount_eq x c (.inl ()) 0 d]
  rfl

/-- every other cell a block's credit. -/
theorem expect_xfer (c : Dev nD) (k : (Fin 3 × Str) ⊕ (Fin 3 × Str)) : (Rd x).expect (cell c (.inr k)) 0 = N := by
  unfold Schedule.expect Schedule.amountOf
  rw [duties_eq, Finset.sum_congr rfl fun d _ => amount_eq x c (.inr k) 0 d]
  exact Finset.sum_singleton _ _

/-- The payloads of a copy's cell. -/
theorem rest_xfer (c : Dev nD) (k : (Fin 3 × Str) ⊕ (Fin 3 × Str)) :
    bigSep ((Rd x).duties (cell c (.inr k)) 0 \ ∅) (fun d => (Rd x).payload (cell c (.inr k)) 0 d)
      = payload x c 0 (.inr k) := by
  rw [Finset.sdiff_empty, duties_eq]
  show bigSep {0} _ = _
  rw [bigSep_singleton, payload_eq]

/-- The payloads of the barrier's cell. -/
theorem rest_bar (c : Dev nD) :
    bigSep ((Rd x).duties (barCell c) 0 \ ∅) (fun d => (Rd x).payload (barCell c) 0 d)
      = bigSep Finset.univ fun d => commAny (F := F) d (peer d c) := by
  rw [Finset.sdiff_empty, duties_eq]
  exact bigSep_congr fun d _ => by rw [payload_eq]; rfl

/-! ## What each device owes; the levels -/

/-- A list's tallies owed after `rest`, the head's to be paid first. -/
def owed (L : List Str) (f : Str → CellTallies nD τ sig Unit) (rest : CellTallies nD τ sig Unit) :
    CellTallies nD τ sig Unit :=
  L.foldr (fun q O => O + f q) rest

/-- The units device `c`'s copy of hop `h` raises its neighbour's landing cell by. -/
def due (c : Dev nD) (h : Fin 3) (q : Str) : CellTallies nD τ sig Unit :=
  tallyAt (recvCell (peer q.1 c) h q) () N

/-- What device `c` owes before its third hop: the landings of that hop; -/
def O₂ (c : Dev nD) : CellTallies nD τ sig Unit := owed byBlock (due c 2) 0
/-- before its second hop: those of the last two hops; -/
def O₁ (c : Dev nD) : CellTallies nD τ sig Unit := owed byBlock (due c 1) (O₂ c)
/-- before its first hop: those of all three; -/
def O₀ (c : Dev nD) : CellTallies nD τ sig Unit := owed byBlock (due c 0) (O₁ c)

/-- and at launch: both neighbours' barrier cells besides. -/
def Oinit (c : Dev nD) : CellTallies nD τ sig Unit :=
  O₀ c + tallyAt (barCell (peer 0 c)) () 1 + tallyAt (barCell (peer 1 c)) () 1

/-- The thread that has cells has one index at each of its semaphores, other threads none. -/
def Lv (g : GSem nD τ sig) : Finset Unit := if g.1.2 = .tc then {()} else ∅

/-- The level of a cell: the barrier below the landings, a hop's landings below the next hop's, every
    other semaphore at the bottom. -/
def lvK : CK → ℕ
  | .inl _ => 1
  | .inr (.inl _) => 0
  | .inr (.inr hq) => 2 + hq.1.val

/-- The level of a semaphore: its cell's, or the bottom. -/
def lv (g : GSem nD τ sig) (_ : Unit) : ℕ := (look g.2).elim 0 lvK

/-- Other threads have none. -/
theorem Lv_of_ne (g : GSem nD τ sig) (h : g.1.2 ≠ .tc) : Lv g = ∅ := if_neg h
/-- The index is one of each semaphore of a device. -/
theorem mem_Lv (c : Dev nD) (sm : SemLoc sig) (u : Unit) : u ∈ Lv ((c : Thread nD τ), sm) := by
  show u ∈ (if (Proc.tc : Proc τ) = .tc then {()} else ∅)
  rw [if_pos rfl]; exact Finset.mem_singleton_self _
/-- A cell's level, -/
theorem lv_cell (c : Dev nD) (k : CK) (u : Unit) : lv (cell c k) u = lvK k := by
  show (look (csem k)).elim 0 lvK = _
  rw [look_csem]; rfl
/-- and that of a load's semaphore, the bottom. -/
theorem lv_load (c : Dev nD) (q : Str) (u : Unit) : lv ((c : Thread nD τ), .dma (sLoad q.1 q.2)) u = 0 := by
  show (look _).elim 0 lvK = _
  rw [look_load]; rfl

/-- Every cell that tallies `O` raise lies above level `n`. -/
def Above (n : ℕ) (O : CellTallies nD τ sig Unit) : Prop :=
  ∀ g u, 0 < O g u → u ∈ Lv g ∧ n < lv g u

/-- Owing nothing is owing above any level. -/
theorem Above.zero (n : ℕ) : Above n 0 := fun _ _ h => absurd h (Nat.lt_irrefl 0)

/-- Two tallies above a level are so together. -/
theorem Above.add {n : ℕ} {O O' : CellTallies nD τ sig Unit} (h : Above n O) (h' : Above n O') : Above n (O + O') := by
  intro g u hg
  rw [Pi.add_apply, Finsupp.add_apply] at hg
  by_cases h0 : 0 < O g u
  · exact h g u h0
  · exact h' g u (by omega)

/-- What lies above a level lies above any lower one. -/
theorem Above.mono {n n' : ℕ} (hn : n' ≤ n) {O : CellTallies nD τ sig Unit} (h : Above n O) : Above n' O :=
  fun g u hg => ⟨(h g u hg).1, lt_of_le_of_lt hn (h g u hg).2⟩

/-- Units of a cell lie above what its level is above. -/
theorem Above.tally {n : ℕ} (c : Dev nD) (k : CK) (N : ℕ) (h : n < lvK k) : Above n (tallyAt (cell c k) () N) := by
  intro g u hg
  rw [tallyAt_apply] at hg
  by_cases e : g = cell c k ∧ u = ()
  · rw [e.1]; exact ⟨mem_Lv c _ u, by rw [lv_cell]; exact h⟩
  · rw [if_neg e] at hg; exact absurd hg (Nat.lt_irrefl 0)

/-- A hop's landing lies above the levels of the hops before. -/
theorem Above.due {n : ℕ} (c : Dev nD) (h : Fin 3) (q : Str) (hn : n < 2 + h.val) : Above n (due c h q) :=
  Above.tally _ _ _ hn

/-- A list's tallies lie above a level if each does and the rest does. -/
theorem Above.owed {n : ℕ} (L : List Str) {f : Str → CellTallies nD τ sig Unit} {rest : CellTallies nD τ sig Unit}
    (hr : Above n rest) (hf : ∀ q, Above n (f q)) : Above n (owed L f rest) := by
  induction L with
  | nil => exact hr
  | cons q L ih => exact ih.add (hf q)

/-- What is owed lies above the hops done: before the third hop, -/
theorem above_O₂ (c : Dev nD) : Above 3 (O₂ c) := Above.owed _ (Above.zero 3) fun q => Above.due c 2 q (by decide)
/-- before the second, -/
theorem above_O₁ (c : Dev nD) : Above 2 (O₁ c) :=
  Above.owed _ ((above_O₂ c).mono (by decide)) fun q => Above.due c 1 q (by decide)
/-- before the first, -/
theorem above_O₀ (c : Dev nD) : Above 1 (O₀ c) :=
  Above.owed _ ((above_O₁ c).mono (by decide)) fun q => Above.due c 0 q (by decide)
/-- and at launch above the bottom. -/
theorem above_Oinit (c : Dev nD) : Above 0 (Oinit c) :=
  (((above_O₀ c).mono (by decide)).add (Above.tally _ _ _ (by decide))).add (Above.tally _ _ _ (by decide))

/-- A device owing only cells above a semaphore's level may wait on the semaphore. -/
theorem mayWait (c : Dev nD) (sm : SemLoc sig) (n : ℕ) (hn : lv ((c : Thread nD τ), sm) () ≤ n)
    (O : CellTallies nD τ sig Unit) (h : Above n O) :
    (levAts Lv lv : sProp 𝕄) ⊢ MayWait (c : Thread nD τ) sm () O :=
  MayOwe.of_cut (L := Lv) (lev := lv) n (fun p hp => by rw [Finset.mem_singleton.mp hp]; exact mem_Lv c _ _)
    (fun g u hg => (h g u hg).1)
    (fun p hp => by rw [Finset.mem_singleton.mp hp]; exact hn)
    (fun g u hg => (h g u hg).2)

end Cert.Proof

end
-- ==== Proof.Steps.lean ====
/- One device's steps: the rule of each effect of the protocol, what each phase takes and leaves for one
   stream, and the rule that runs a phase over the streams in order. -/
module

public import proofs.«01_k».proof.Proof.Sched

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : (c : Dev nD) → Buf (Elt F) ((c : Thread nD τ).loc main_arg0))

/-! ## The records every device holds -/

/-- Every cell's invariant and that its round is reached, and the levels. -/
def Ctx (K : Dev nD × CK → ℕ) : sProp 𝕄 :=
  iprop((bigSep Finset.univ fun ck : Dev nD × CK => cellInv ER (Rd x) (K ck) (cell ck.1 ck.2))
    ∗ (bigSep Finset.univ fun ck : Dev nD × CK => reached ER (cell ck.1 ck.2) 0) ∗ levAts Lv lv)

/-- The records may be copied. -/
instance ctx_persistent (K : Dev nD × CK → ℕ) : BI.Persistent (Ctx x K) := by unfold Ctx; infer_instance

variable (K : Dev nD × CK → ℕ) (c : Dev nD)

/-- The records have every cell's invariant, -/
theorem ctx_inv (c : Dev nD) (k : CK) : Ctx x K ⊢ cellInv ER (Rd x) (K (c, k)) (cell c k) := by
  unfold Ctx
  iintro ⟨H, -, -⟩
  iapply (show (bigSep Finset.univ fun ck : Dev nD × CK => (cellInv ER (Rd x) (K ck) (cell ck.1 ck.2) : sProp 𝕄))
    ⊢ cellInv ER (Rd x) (K (c, k)) (cell c k) from bigSep_elim (Finset.mem_univ (c, k))) $$ H

/-- that its round is reached, -/
theorem ctx_reached (c : Dev nD) (k : CK) : Ctx x K ⊢ reached ER (cell c k) 0 := by
  unfold Ctx
  iintro ⟨-, H, -⟩
  iapply (show (bigSep Finset.univ fun ck : Dev nD × CK => (reached ER (cell ck.1 ck.2) 0 : sProp 𝕄))
    ⊢ reached ER (cell c k) 0 from bigSep_elim (Finset.mem_univ (c, k))) $$ H

/-- and that a device owing only what lies above a semaphore's level may wait on it. -/
theorem ctx_mayWait (sm : SemLoc sig) (n : ℕ) (hn : lv ((c : Thread nD τ), sm) () ≤ n)
    (O : CellTallies nD τ sig Unit) (h : Above n O) : Ctx x K ⊢ MayWait (c : Thread nD τ) sm () O := by
  unfold Ctx
  iintro ⟨-, -, H⟩
  iapply (mayWait c sm n hn O h) $$ H

/-! ## The effects of the protocol -/

/-- What device `c` owes, whatever it has waited for. -/
abbrev owe (c : Dev nD) (O : CellTallies nD τ sig Unit) : sProp 𝕄 := iprop(∃ W, owes (c : Thread nD τ) O W)

/-- What a device waits on cell `k` with. -/
abbrev waiting (c : Dev nD) (k : (Fin 3 × Str) ⊕ (Fin 3 × Str)) : sProp 𝕄 :=
  iprop(cred (tallyAt (cell c (.inr k)) () N) ∗ atPos ER (cell c (.inr k)) 0 ∅ 0)

variable {Q : PUnit.{1} → sProp (MT nD τ sig Unit (Elt F) ℕ UU ℕ)}

/-- Waiting on a copy's cell: its payload, and the cell closed at zero. -/
theorem wp_waitCell (k : (Fin 3 × Str) ⊕ (Fin 3 × Str)) {sem : DmaSem sig} (hs : csem (.inr k) = .dma sem)
    {sp sp' : Space} {s : Shape} {e : EltTy} {a : Memref sig .tc sp s e} {b : Memref sig .tc sp' s e}
    (hN : b.view.dmaCredit = N) {h1 : a.view.WordExact} {h2 : b.view.WordExact}
    (O : CellTallies nD τ sig Unit) (hO : Above (lvK (.inr k)) O) {p : Body F} :
    iprop(Ctx x K ∗ waiting c k ∗ owe c O)
      ⊢ iprop((iprop(payload x c 0 (.inr k) ∗ semVal (cell c (.inr k)) 0 ∗ owe c O) -∗ wpAt c p Q)
          -∗ wpAt c (.op (.waitDma2 sem a b h1 h2) fun _ => p) Q) := by
  iintro ⟨#HC, ⟨Hc, Hat⟩, ⟨%W, HO⟩⟩ Hk
  ihave #HI := (ctx_inv x K c (.inr k)) $$ HC
  ihave #HM := (ctx_mayWait x K c (csem (.inr k)) (lvK (.inr k)) (by rw [lv_cell]) O hO) $$ HC
  ihave Hc := (Entails.of_eq (congrArg (fun n => (cred (tallyAt (cell c (.inr k)) () n) : sProp 𝕄)) hN.symm)) $$ Hc
  unfold cell
  rw [hs]
  iapply (Rounds.wp_wait_rest_token 𝒱₀ ER (Rd x) (c : Thread nD τ) none (κ := K (c, .inr k))
      (wpE_waitDma2_eq 𝒱₀ (c : Thread nD τ) none Set.univ) (Set.mem_univ _) () (O := O) (W := W) (R := 0)
      (m := 0) (T := ∅) (by rw [Nat.zero_add, hN, ← hs]; exact (expect_xfer x c k).symm)) $$ [Hc HO Hat]
  · isplitr; · iexact HI
    isplitl [Hc]; · iexact Hc
    isplitl [HO]; · iexact HO
    isplitr; · iexact HM
    iexact Hat
  iintro ⟨HO, Hat, -, Hp⟩
  rw [← hs]
  imod (Rounds.cell_close ER (Rd x) (Set.mem_univ (K (c, .inr k))) (fun h => h) (R := 0 + 1)
    (duties_later x (cell c (.inr k)))) $$ [Hat] with Hz
  · isplitr; · iexact HI
    iexact Hat
  ihave Hp := (Entails.of_eq (rest_xfer x c k)) $$ Hp
  iapply Hk
  isplitl [Hp]; · iexact Hp
  isplitl [Hz]; · iexact Hz
  iexists _; iexact HO

/-- Sending a block at hop `h`: from the block to send at its value, the neighbour's landing block and
    the two duties, a unit of credit on the send cell, the neighbour's landing cell owed no more. -/
theorem wp_startSend (h : Fin 3) (q : Str) (O : CellTallies nD τ sig Unit) {p : Body F} :
    iprop(Ctx x K ∗ own1 c (pFrom q.1 h q.2) (val x q h.val c) ∗ own0 (F := F) (peer q.1 c) (pComm q.1 h q.2)
        ∗ dutyTok ER (sendCell c h q) 0 (0 : Fin 2) ∗ dutyTok ER (recvCell (peer q.1 c) h q) 0 (0 : Fin 2)
        ∗ owe c (O + due c h q))
      ⊢ iprop((iprop(cred (tallyAt (sendCell c h q) () N) ∗ owe c O) -∗ wpAt c p Q)
          -∗ wpAt c (startSend c h q.1 q.2 p) Q) := by
  unfold own0 own1 ownsTc owns
  iintro ⟨#HC, ⟨%f, %hf, Hs⟩, ⟨%Y, %g, %hg, Hd⟩, HtS, HtR, ⟨%W, HO⟩⟩ Hk
  ihave #HI := (ctx_inv x K c (.inr (.inl (h, q)))) $$ HC
  ihave #HI' := (ctx_inv x K (peer q.1 c) (.inr (.inr (h, q)))) $$ HC
  ihave #HR := (ctx_reached x K c (.inr (.inl (h, q)))) $$ HC
  ihave #HR' := (ctx_reached x K (peer q.1 c) (.inr (.inr (h, q)))) $$ HC
  iapply (Rounds.wp_send_pointsTo 𝒱₀ ER (Rd x) (c : Thread nD τ) none (κ₁ := K (c, .inr (.inl (h, q))))
    (κ₂ := K (peer q.1 c, .inr (.inr (h, q))))
    (r₁ := 0) (r₂ := 0) (d₁ := 0) (d₂ := 0) (fd := g) (c' := (peer q.1 c : Thread nD τ))
    (src := pFrom q.1 h q.2) (dst := pComm q.1 h q.2) (sem := .dma (sRecv q.1 h q.2)) (sS := .dma (sSend q.1 h q.2))
    ((duties_eq x c (.inr (.inl (h, q)))).symm ▸ Finset.mem_singleton_self _)
    ((duties_eq x (peer q.1 c) (.inr (.inr (h, q)))).symm ▸ Finset.mem_singleton_self _)
    () () N (credit_comm q.1 h q.2) (amount_eq x c (.inr (.inl (h, q))) 0 0)
    (amount_eq x (peer q.1 c) (.inr (.inr (h, q))) 0 0) O rfl (W := W)
    ((?hs : _ ⊢ payload x c 0 (.inr (.inl (h, q)))).trans (Entails.of_eq (payload_eq x c (.inr (.inl (h, q))) 0 0).symm))
    ((?hr : _ ⊢ payload x (peer q.1 c) 0 (.inr (.inr (h, q)))).trans
      (Entails.of_eq (payload_eq x (peer q.1 c) (.inr (.inr (h, q))) 0 0).symm))) $$ [Hs Hd HO HtS HtR]
  case hs =>
    show _ ⊢ own1 c (pFrom q.1 h q.2) (val x q h.val c)
    unfold own1 ownsTc owns
    iintro H
    iexists f
    isplitr; · ipureintro; exact hf
    iexact H
  case hr =>
    show _ ⊢ own1 (peer q.1 c) (pComm q.1 h q.2) (val x q h.val (src q.1 (peer q.1 c)))
    unfold own1 ownsTc owns
    rw [src_peer]
    iintro H
    iexists _
    isplitr
    rotate_left
    · iexact H
    ipureintro
    rw [View.read_write_univ]; exact hf
  · isplitr; · iexact HI
    isplitr; · iexact HI'
    isplitl [Hs]; · iexact Hs
    isplitl [Hd]; · iexact Hd
    isplitl [HO]; · iexact HO
    isplitl [HtS]; · iexact HtS
    isplitr; · iexact HR
    isplitl [HtR]; · iexact HtR
    iexact HR'
  iintro ⟨Hc, HO⟩
  iapply Hk
  isplitl [Hc]; · iexact Hc
  iexists W; iexact HO

/-! ## What the phases take and leave, for one stream -/

/-- The share of the argument the loads read with. -/
abbrev qx : PosShare TreeShare := fullShare.right

/-- What load `j` reads from, -/
def Ld (j : Fin 4) (q : Str) : sProp 𝕄 := ownsTc c (pX c q.1 q.2 j) qx (xv x c j q)

/-- the load in flight, -/
def flight (j : Fin 4) (q : Str) : sProp 𝕄 :=
  inFlight c q.1 q.2 iprop(own1 c (pStage q.1 q.2) (xv x c j q) ∗ ownsTc c (pX c q.1 q.2 j) qx (xv x c j q))

omit x in
/-- the staging block with its semaphore at zero. -/
def idle (q : Str) : sProp 𝕄 :=
  iprop(own0 (F := F) c (pStage q.1 q.2) ∗ semVal ((c : Thread nD τ), SemLoc.dma (sLoad q.1 q.2)) 0)

/-- What a send of hop `h` needs besides the block sent: the landing block at the neighbour, the duties of
    both cells, and the send cell's position. -/
def ready (h : Fin 3) (q : Str) : sProp 𝕄 :=
  iprop(own0 (F := F) (peer q.1 c) (pComm q.1 h q.2) ∗ dutyTok ER (sendCell c h q) 0 (0 : Fin 2)
    ∗ dutyTok ER (recvCell (peer q.1 c) h q) 0 (0 : Fin 2) ∗ atPos ER (sendCell c h q) 0 ∅ 0)

/-- A send under way, -/
def sent (h : Fin 3) (q : Str) : sProp 𝕄 := waiting (F := F) c (.inl (h, q))

/-- a landing to be waited for. -/
def due' (h : Fin 3) (q : Str) : sProp 𝕄 := waiting (F := F) c (.inr (h, q))

/-- The rule of one stream of a phase: it takes `Pre` and pays `f`, and leaves `Post`, where what stays owed
    lies above level `n`. -/
def Step (n : ℕ) (f : CellTallies nD τ sig Unit) (Pre Post : sProp 𝕄) (ph : Body F → Body F) : Prop :=
  ∀ (O : CellTallies nD τ sig Unit) (p : Body F) (Q : PUnit.{1} → sProp 𝕄), Above n O →
    iprop(Ctx x K ∗ Pre ∗ owe c (O + f)) ⊢ iprop((iprop(Post ∗ owe c O) -∗ wpAt c p Q) -∗ wpAt c (ph p) Q)

variable {p : Body F}

/-- Starting a load: from the argument's block, the idle staging block and its semaphore, to a load in flight. -/
theorem wp_load (j : Fin 4) (q : Str) :
    iprop(Ld x c j q ∗ idle (F := F) c q) ⊢ iprop((flight x c j q -∗ wpAt c p Q)
      -∗ wpAt c (startLoad c j q.1 q.2 p) Q) := by
  unfold Ld idle flight
  iintro ⟨Hx, Hs, Hv⟩ Hk
  iapply (wp_startLoad c j q.1 q.2 qx (xv x c j q)) $$ [Hx Hs Hv]
  · isplitl [Hx]; · iexact Hx
    isplitl [Hs] <;> iassumption
  iexact Hk

/-- Waiting for a load, any cell owed lying above the bottom: the staging block at what was loaded. -/
theorem wp_loaded (j : Fin 4) (q : Str) (O : CellTallies nD τ sig Unit) (hO : Above 0 O) :
    iprop(Ctx x K ∗ flight x c j q ∗ owe c O)
      ⊢ iprop((iprop(own1 c (pStage q.1 q.2) (xv x c j q) ∗ semVal ((c : Thread nD τ), SemLoc.dma (sLoad q.1 q.2)) 0
          ∗ owe c O) -∗ wpAt c p Q) -∗ wpAt c (waitLoad c j q.1 q.2 p) Q) := by
  unfold flight
  iintro ⟨#HC, Hf, ⟨%W, HO⟩⟩ Hk
  ihave #HM := (ctx_mayWait x K c (.dma (sLoad q.1 q.2)) 0 (by rw [lv_load]) O hO) $$ HC
  iapply (wp_waitLoad c j q.1 q.2 _ O W) $$ [Hf HO]
  · isplitl [Hf]; · iexact Hf
    isplitl [HO]; · iexact HO
    iexact HM
  iintro ⟨⟨Hs, -⟩, Hv, HO⟩
  iapply Hk
  isplitl [Hs]; · iexact Hs
  isplitl [Hv]; · iexact Hv
  iexists _; iexact HO

/-- Sending a block, what is needed bundled. -/
theorem wp_send (h : Fin 3) (q : Str) (O : CellTallies nD τ sig Unit) :
    iprop(Ctx x K ∗ own1 c (pFrom q.1 h q.2) (val x q h.val c) ∗ ready (F := F) c h q ∗ owe c (O + due c h q))
      ⊢ iprop((iprop(sent (F := F) c h q ∗ owe c O) -∗ wpAt c p Q) -∗ wpAt c (startSend c h q.1 q.2 p) Q) := by
  unfold ready sent
  iintro ⟨#HC, Hs, ⟨Hd, HtS, HtR, Hat⟩, HO⟩ Hk
  iapply (wp_startSend x K c h q O) $$ [Hs Hd HtS HtR HO]
  · isplitr; · iexact HC
    isplitl [Hs]; · iexact Hs
    isplitl [Hd]; · iexact Hd
    isplitl [HtS]; · iexact HtS
    isplitl [HtR] <;> iassumption
  iintro ⟨Hc, HO⟩
  iapply Hk
  isplitr [HO]
  · isplitl [Hc] <;> iassumption
  iexact HO

/-- The first phase. -/
theorem step0 (q : Str) : Step x K c 0 0 iprop(Ld x c 0 q ∗ idle (F := F) c q) (flight x c 0 q) (phase0 c q.1 q.2) := by
  intro O p Q hO
  rw [add_zero]
  unfold phase0
  iintro ⟨-, Hp, HO⟩ Hk
  iapply (wp_load x c 0 q) $$ Hp
  iintro Hf
  iapply Hk
  isplitl [Hf] <;> iassumption

/-- The second phase: the first send. -/
theorem step1 (q : Str) : Step x K c 0 (due c 0 q)
    iprop(flight x c 0 q ∗ Ld x c 1 q ∗ own0 (F := F) c (pSend q.1 q.2) ∗ ready (F := F) c 0 q)
    iprop(flight x c 1 q ∗ sent (F := F) c 0 q) (phase1 c q.1 q.2) := by
  intro O p Q hO
  unfold phase1
  iintro ⟨#HC, ⟨Hf, Hx, Hb, Hr⟩, HO⟩ Hk
  iapply (wp_loaded x K c 0 q _ (hO.add (Above.due c 0 q (by decide)))) $$ [Hf HO]
  · isplitr; · iexact HC
    isplitl [Hf] <;> iassumption
  iintro ⟨Hs, Hv, HO⟩
  iapply (wp_readPart c mStage (r2 q.1 q.2) _ _ shapeCasts_S1x128x1024_S128x1024 _) $$ Hs
  iintro %v %hv Hs
  iapply (wp_peekPart c mSend (r2 q.1 q.2) _ _) $$ Hb
  iintro Hb
  iapply (wp_writePart c mSend (r2 q.1 q.2) _ _ shapeCasts_S128x1024_S1x128x1024) $$ Hb
  iintro Hb
  rw [show narrow v = val x q 0 c from congrArg trunc hv]
  iapply (wp_send x K c 0 q O) $$ [Hb Hr HO]
  · isplitr; · iexact HC
    isplitl [Hb]; · iexact Hb
    isplitl [Hr] <;> iassumption
  iintro ⟨Hc, HO⟩
  iapply (wp_load x c 1 q) $$ [Hx Hs Hv]
  · isplitl [Hx]; · iexact Hx
    unfold idle
    isplitl [Hs]; · iexists _; iexact Hs
    iexact Hv
  iintro Hf
  iapply Hk
  isplitr [HO]
  · isplitl [Hf] <;> iassumption
  iexact HO

/-- A later hop sends from where the hop before it landed. -/
theorem pFrom_succ (d : Fin 2) (h : Fin 2) (s : Fin 16) : pFrom d h.succ s = pComm d h.castSucc s := by
  match h with
  | 0 => rfl
  | 1 => rfl

/-- A hop that forwards. -/
theorem stepHop (h : Fin 2) (q : Str) : Step x K c (2 + h.val) (due c h.succ q)
    iprop(flight x c h.castSucc.succ q ∗ Ld x c h.succ.succ q ∗ due' (F := F) c h.castSucc q ∗ ready (F := F) c h.succ q)
    iprop(flight x c h.succ.succ q ∗ sent (F := F) c h.succ q ∗ semVal (recvCell c h.castSucc q) 0)
    (phaseHop h c q.1 q.2) := by
  intro O p Q hO
  unfold phaseHop due'
  have hO' : Above (2 + h.val) (O + due c h.succ q) := hO.add (Above.due c h.succ q (by rw [Fin.val_succ]; omega))
  iintro ⟨#HC, ⟨Hf, Hx, Hw, Hr⟩, HO⟩ Hk
  iapply (wp_waitCell x K c (.inr (h.castSucc, q)) rfl (credit_comm q.1 h.castSucc q.2) _ hO') $$ [Hw HO]
  · isplitr; · iexact HC
    isplitl [Hw] <;> iassumption
  iintro ⟨Hb, Hz, HO⟩
  iapply (wp_loaded x K c h.castSucc.succ q _ (hO'.mono (Nat.zero_le _))) $$ [Hf HO]
  · isplitr; · iexact HC
    isplitl [Hf] <;> iassumption
  iintro ⟨Hs, Hv, HO⟩
  ihave Hb := (show payload x c 0 (.inr (.inr (h.castSucc, q)))
    ⊢ own1 c (pComm q.1 h.castSucc q.2) (val x q h.castSucc.val (src q.1 c)) from BI.Entails.refl _) $$ Hb
  iapply (wp_readPart c (mComm q.1) (r3 h.castSucc q.2) _ _ shapeCasts_S1x128x1024_S128x1024 _) $$ Hb
  iintro %u %hu Hb
  iapply (wp_readPart c mStage (r2 q.1 q.2) _ _ shapeCasts_S1x128x1024_S128x1024 _) $$ Hs
  iintro %v %hv Hs
  iapply (wp_peekPart c (mComm q.1) (r3 h.castSucc q.2) _ _) $$ [Hb]
  · iexists _; iexact Hb
  iintro Hb
  iapply (wp_writePart c (mComm q.1) (r3 h.castSucc q.2) _ _ shapeCasts_S128x1024_S1x128x1024) $$ Hb
  iintro Hb
  ihave Hb := (show own1 c (pComm q.1 h.castSucc q.2) (accum u v) ⊢ own1 c (pFrom q.1 h.succ q.2) (val x q h.succ.val c) from
    Entails.of_eq (by
      rw [pFrom_succ, show h.succ.val = h.castSucc.val + 1 from rfl, val_succ, ← hu, ← hv])) $$ Hb
  iapply (wp_send x K c h.succ q O) $$ [Hb Hr HO]
  · isplitr; · iexact HC
    isplitl [Hb]; · iexact Hb
    isplitl [Hr] <;> iassumption
  iintro ⟨Hc, HO⟩
  iapply (wp_load x c h.succ.succ q) $$ [Hx Hs Hv]
  · isplitl [Hx]; · iexact Hx
    unfold idle
    isplitl [Hs]; · iexists _; iexact Hs
    iexact Hv
  iintro Hf
  iapply Hk
  isplitr [HO]
  · isplitl [Hf]; · iexact Hf
    isplitl [Hc] <;> iassumption
  iexact HO

/-- The block of the result a stream writes. -/
abbrev pOut (d : Fin 2) (s : Fin 16) : Memref sig .tc .vmem S128x1024 .bf16 := mOut.slice (rO d s) (fun _ => rfl)

/-- The last hop. -/
theorem stepLast (q : Str) : Step x K c 4 0
    iprop(flight x c 3 q ∗ due' (F := F) c 2 q ∗ own0 (F := F) c (pOut q.1 q.2))
    iprop(idle (F := F) c q ∗ semVal (recvCell c 2 q) 0 ∗ own0 (F := F) c (pComm q.1 2 q.2)
      ∗ own1 c (pOut q.1 q.2) (val x q 3 c))
    (phaseLast c q.1 q.2) := by
  intro O p Q hO
  rw [add_zero]
  unfold phaseLast due'
  iintro ⟨#HC, ⟨Hf, Hw, Ho⟩, HO⟩ Hk
  iapply (wp_waitCell x K c (.inr (2, q)) rfl (credit_comm q.1 2 q.2) _ hO) $$ [Hw HO]
  · isplitr; · iexact HC
    isplitl [Hw] <;> iassumption
  iintro ⟨Hb, Hz, HO⟩
  iapply (wp_loaded x K c 3 q _ (hO.mono (Nat.zero_le _))) $$ [Hf HO]
  · isplitr; · iexact HC
    isplitl [Hf] <;> iassumption
  iintro ⟨Hs, Hv, HO⟩
  ihave Hb := (show payload x c 0 (.inr (.inr (2, q)))
    ⊢ own1 c (pComm q.1 2 q.2) (val x q 2 (src q.1 c)) from BI.Entails.refl _) $$ Hb
  iapply (wp_readPart c (mComm q.1) (r3 2 q.2) _ _ shapeCasts_S1x128x1024_S128x1024 _) $$ Hb
  iintro %u %hu Hb
  iapply (wp_readPart c mStage (r2 q.1 q.2) _ _ shapeCasts_S1x128x1024_S128x1024 _) $$ Hs
  iintro %v %hv Hs
  iapply (wp_peekSlice c mOut (rO q.1 q.2) _) $$ Ho
  iintro Ho
  iapply (wp_writeSlice c mOut (rO q.1 q.2) _) $$ Ho
  iintro Ho
  ihave Ho := (show own1 c (pOut q.1 q.2) (accum u v) ⊢ own1 c (pOut q.1 q.2) (val x q 3 c) from
    Entails.of_eq (by
      rw [show (3 : ℕ) = (2 : Fin 3).val + 1 from rfl, val_succ, show val x q (2 : Fin 3).val (src q.1 c) = _ from hu.symm,
        show xv x c (2 : Fin 3).succ q = _ from hv.symm])) $$ Ho
  iapply Hk
  isplitr [HO]
  · unfold idle
    isplitl [Hs Hv]
    · isplitl [Hs]; · iexists _; iexact Hs
      iexact Hv
    isplitl [Hz]; · iexact Hz
    isplitl [Hb]; · iexists _; iexact Hb
    iexact Ho
  iexact HO

/-- The wait for a send: the block sent from back. -/
theorem stepSent (h : Fin 3) (q : Str) : Step x K c 0 0 (sent (F := F) c h q)
    iprop(semVal (sendCell c h q) 0 ∗ own0 (F := F) c (pFrom q.1 h q.2)) (waitSend h q.1 q.2) := by
  intro O p Q hO
  rw [add_zero]
  unfold sent
  iintro ⟨#HC, Hw, HO⟩ Hk
  iapply (wp_waitCell x K c (.inl (h, q)) rfl (credit_from q.1 h q.2) _ hO) $$ [Hw HO]
  · isplitr; · iexact HC
    isplitl [Hw] <;> iassumption
  iintro ⟨Hb, Hz, HO⟩
  iapply Hk
  isplitr [HO]
  · isplitl [Hz]; · iexact Hz
    iexists (val x q h.val c)
    iapply (show payload x c 0 (.inr (.inl (h, q))) ⊢ own1 c (pFrom q.1 h q.2) (val x q h.val c) from BI.Entails.refl _) $$ Hb
  iexact HO

/-! ## A phase over the streams -/

/-- Running a phase over a list of streams, each by its step. -/
theorem wp_over (n : ℕ) (f : Str → CellTallies nD τ sig Unit) (hf : ∀ q, Above n (f q)) (Pre Post : Str → sProp 𝕄)
    (ph : Fin 2 → Fin 16 → Body F → Body F) (hs : ∀ q, Step x K c n (f q) (Pre q) (Post q) (ph q.1 q.2))
    (rest : CellTallies nD τ sig Unit) (hr : Above n rest) (L : List Str) (p : Body F) :
    iprop(Ctx x K ∗ bigSepL L Pre ∗ owe c (owed L f rest))
      ⊢ iprop((iprop(bigSepL L Post ∗ owe c rest) -∗ wpAt c p Q) -∗ wpAt c (over L ph p) Q) := by
  induction L generalizing Q with
  | nil =>
    iintro ⟨-, H, HO⟩ Hk
    iapply Hk
    isplitl [H]; · iexact H
    iexact HO
  | cons q L ih =>
    rw [bigSepL_cons, bigSepL_cons]
    show iprop(Ctx x K ∗ (Pre q ∗ bigSepL L Pre) ∗ owe c (owed L f rest + f q))
      ⊢ iprop((iprop((Post q ∗ bigSepL L Post) ∗ owe c rest) -∗ wpAt c p Q) -∗ wpAt c (ph q.1 q.2 (over L ph p)) Q)
    iintro ⟨#HC, ⟨Hq, HL⟩, HO⟩ Hk
    iapply (hs q (owed L f rest) (over L ph p) Q (hr.owed L hf)) $$ [Hq HO]
    · isplitr; · iexact HC
      isplitl [Hq] <;> iassumption
    iintro ⟨Hq, HO⟩
    iapply ih $$ [HL HO]
    · isplitr; · iexact HC
      isplitl [HL] <;> iassumption
    iintro ⟨HL, HO⟩
    iapply Hk
    isplitr [HO]
    · isplitl [Hq] <;> iassumption
    iexact HO

/-- Both orders of the streams name each stream once, -/
theorem byBlock_nodup : byBlock.Nodup := by decide
/-- the order by direction too; -/
theorem byDir_nodup : byDir.Nodup := by decide
/-- and both name all streams: -/
theorem univ_byBlock : (Finset.univ : Finset Str) = byBlock.toFinset := by decide
/-- by block and by direction. -/
theorem univ_byDir : (Finset.univ : Finset Str) = byDir.toFinset := by decide

end Cert.Proof

end
-- ==== Proof.Body.lean ====
/- One device's body: from what the device starts with to its block of the result, every cell closed. -/
module

public import proofs.«01_k».proof.Proof.Steps
public import Idealize.ShloMosaic.Lib.Ring

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : (c : Dev nD) → Buf (Elt F) ((c : Thread nD τ).loc main_arg0))
variable (K : Dev nD × CK → ℕ) (c : Dev nD)
variable {Q : PUnit.{1} → sProp (MT nD τ sig Unit (Elt F) ℕ UU ℕ)} {p : Body F}

/-- One of each stream. -/
abbrev each (Φ : Str → sProp 𝕄) : sProp 𝕄 := bigSep Finset.univ Φ

/-- One of each hop and stream. -/
abbrev each3 (Φ : Fin 3 → Str → sProp 𝕄) : sProp 𝕄 := bigSep Finset.univ fun h => bigSep Finset.univ (Φ h)

/-- One of each hop and stream, hop by hop. -/
theorem each3_eq (Φ : Fin 3 → Str → sProp 𝕄) : each3 Φ = iprop(each (Φ 0) ∗ each (Φ 1) ∗ each (Φ 2)) :=
  Ring.bigSep_fin3 _

/-- Owing nothing for each stream of a list adds nothing. -/
theorem owed_zero (L : List Str) (rest : CellTallies nD τ sig Unit) : owed L (fun _ => 0) rest = rest := by
  induction L with
  | nil => rfl
  | cons q L ih => exact (add_zero _).trans ih

/-- Running a phase over all streams, in any order. -/
theorem wp_phase (n : ℕ) (f : Str → CellTallies nD τ sig Unit) (hf : ∀ q, Above n (f q)) (Pre Post : Str → sProp 𝕄)
    {ph : Fin 2 → Fin 16 → Body F → Body F} (hs : ∀ q, Step x K c n (f q) (Pre q) (Post q) (ph q.1 q.2))
    (rest : CellTallies nD τ sig Unit) (hr : Above n rest) (L : List Str)
    (hL : (Finset.univ : Finset Str) = L.toFinset) (hn : L.Nodup) :
    iprop(Ctx x K ∗ each Pre ∗ owe c (owed L f rest))
      ⊢ iprop((iprop(each Post ∗ owe c rest) -∗ wpAt c p Q) -∗ wpAt c (over L ph p) Q) := by
  unfold each
  rw [bigSep_univ_eq_bigSepL L hL hn, bigSep_univ_eq_bigSepL L hL hn]
  exact wp_over x K c n f hf Pre Post ph hs rest hr L p

/-- Running a phase that pays nothing. -/
theorem wp_phase0 (n : ℕ) (Pre Post : Str → sProp 𝕄)
    {ph : Fin 2 → Fin 16 → Body F → Body F} (hs : ∀ q, Step x K c n 0 (Pre q) (Post q) (ph q.1 q.2))
    (rest : CellTallies nD τ sig Unit) (hr : Above n rest) (L : List Str)
    (hL : (Finset.univ : Finset Str) = L.toFinset) (hn : L.Nodup) :
    iprop(Ctx x K ∗ each Pre ∗ owe c rest)
      ⊢ iprop((iprop(each Post ∗ owe c rest) -∗ wpAt c p Q) -∗ wpAt c (over L ph p) Q) := by
  have h := wp_phase x K c (Q := Q) (p := p) n (fun _ => 0) (fun _ => Above.zero n) Pre Post hs rest hr L hL hn
  rwa [owed_zero] at h

/-! ## The barrier -/

/-- What a signal hands its neighbour: the device's own landing blocks of the direction. -/
theorem bar_payload (d : Fin 2) (c : Dev nD) :
    commAny d c = (Rd x).payload (barCell (src d c)) 0 d := by
  rw [payload_eq]; show _ = commAny d (peer d (src d c)); rw [peer_src]

/-- The barrier: from both directions' landing blocks, the neighbours' duties and the wait's two units, the
    blocks to send into at both neighbours. -/
theorem wp_barrier :
    iprop(Ctx x K ∗ (bigSep Finset.univ fun d : Fin 2 => commAny (F := F) d c)
        ∗ (bigSep Finset.univ fun d : Fin 2 => dutyTok ER (barCell (src d c)) 0 d)
        ∗ cred (tallyAt (barCell c) () 2) ∗ atPos ER (barCell c) 0 ∅ 0 ∗ owe c (Oinit c))
      ⊢ iprop((iprop((bigSep Finset.univ fun d : Fin 2 => commAny (F := F) d (peer d c)) ∗ semVal (barCell c) 0
            ∗ owe c (O₀ c)) -∗ wpAt c p Q)
          -∗ wpAt c (barrier c p) Q) := by
  unfold barrier Oinit
  rw [Ring.bigSep_fin2 (fun d : Fin 2 => commAny (F := F) d c), Ring.bigSep_fin2 (fun d : Fin 2 => dutyTok ER (barCell (src d c)) 0 d)]
  iintro ⟨#HC, ⟨Hb0, Hb1⟩, ⟨Ht0, Ht1⟩, Hc, Hat, ⟨%W, HO⟩⟩ Hk
  ihave #HI := (ctx_inv x K c (.inl ())) $$ HC
  ihave #HI0 := (ctx_inv x K (src 0 c) (.inl ())) $$ HC
  ihave #HI1 := (ctx_inv x K (src 1 c) (.inl ())) $$ HC
  ihave #HR0 := (ctx_reached x K (src 0 c) (.inl ())) $$ HC
  ihave #HR1 := (ctx_reached x K (src 1 c) (.inl ())) $$ HC
  ihave #HM := (ctx_mayWait x K c (csem (.inl ())) 1 (by rw [lv_cell]; exact le_rfl) (O₀ c) (above_O₀ c)) $$ HC
  iapply (Rounds.wp_signal 𝒱₀ ER (Rd x) (c : Thread nD τ) none (dst := (src 0 c : Thread nD τ)) (κ := K (src 0 c, .inl ()))
      (d := (0 : Fin 2)) ((duties_eq x (src 0 c) (.inl ())).symm ▸ Finset.mem_univ _)
      ((amount_eq x (src 0 c) (.inl ()) 0 0).trans (by decide)) () (O₀ c + tallyAt (barCell (peer 0 c)) () 1) rfl)
    $$ [HO Ht0 Hb0]
  · isplitr; · iexact HI0
    isplitl [HO]; · iexact HO
    isplitl [Ht0]; · iexact Ht0
    isplitl [Hb0]
    · iapply (show commAny 0 c ⊢ (Rd x).payload ((src 0 c : Thread nD τ), SemLoc.reg sBar) 0 0 from Entails.of_eq (bar_payload x 0 c)) $$ Hb0
    iexact HR0
  iintro HO
  iapply (Rounds.wp_signal 𝒱₀ ER (Rd x) (c : Thread nD τ) none (dst := (src 1 c : Thread nD τ)) (κ := K (src 1 c, .inl ()))
      (d := (1 : Fin 2)) ((duties_eq x (src 1 c) (.inl ())).symm ▸ Finset.mem_univ _)
      ((amount_eq x (src 1 c) (.inl ()) 0 1).trans (by decide)) () (O₀ c) rfl)
    $$ [HO Ht1 Hb1]
  · isplitr; · iexact HI1
    isplitl [HO]; · iexact HO
    isplitl [Ht1]; · iexact Ht1
    isplitl [Hb1]
    · iapply (show commAny 1 c ⊢ (Rd x).payload ((src 1 c : Thread nD τ), SemLoc.reg sBar) 0 1 from Entails.of_eq (bar_payload x 1 c)) $$ Hb1
    iexact HR1
  iintro HO
  iapply (Rounds.wp_wait_rest_token 𝒱₀ ER (Rd x) (c : Thread nD τ) none (κ := K (c, .inl ()))
      (wpE_semWait_eq 𝒱₀ (c : Thread nD τ) none Set.univ) (Set.mem_univ _) () (O := O₀ c) (W := W) (R := 0) (m := 0) (T := ∅)
      (by rw [show (((c : Thread nD τ), SemLoc.reg sBar) : GSem nD τ sig) = barCell c from rfl, expect_bar]; decide))
    $$ [Hc HO Hat]
  · isplitr; · iexact HI
    isplitl [Hc]; · iexact Hc
    isplitl [HO]; · iexact HO
    isplitr; · iexact HM
    iexact Hat
  iintro ⟨HO, Hat, -, Hp⟩
  imod (Rounds.cell_close ER (Rd x) (Set.mem_univ (K (c, .inl ()))) (fun h => h) (R := 0 + 1)
    (duties_later x (barCell c))) $$ [Hat] with Hz
  · isplitr; · iexact HI
    iexact Hat
  ihave Hp := (show bigSep ((Rd x).duties ((c : Thread nD τ), SemLoc.reg sBar) 0 \ ∅)
      (fun d => (Rd x).payload ((c : Thread nD τ), SemLoc.reg sBar) 0 d)
    ⊢ bigSep Finset.univ fun d => commAny (F := F) d (peer d c) from Entails.of_eq (rest_bar x c)) $$ Hp
  iapply Hk
  isplitl [Hp]; · iexact Hp
  isplitl [Hz]; · iexact Hz
  iexists _; iexact HO

/-! ## The body -/

/-- The landing blocks, by hop and stream. -/
theorem comm_eq (g : Fin 2 → Dev nD) : (bigSep Finset.univ fun d : Fin 2 => commAny (F := F) d (g d))
    = each3 fun h q => own0 (F := F) (g q.1) (pComm q.1 h q.2) := by
  unfold commAny each3
  rw [bigSep_univ_comm]
  exact bigSep_congr fun h _ => (bigSep_univ_prod fun q : Str => own0 (F := F) (g q.1) (pComm q.1 h q.2)).symm

/-- The duties and the position of a send. -/
def tokens (h : Fin 3) (q : Str) : sProp 𝕄 :=
  iprop(dutyTok ER (sendCell c h q) 0 (0 : Fin 2) ∗ dutyTok ER (recvCell (peer q.1 c) h q) 0 (0 : Fin 2)
    ∗ atPos ER (sendCell c h q) 0 ∅ 0)

/-- What the protocol gives device `c` to start with. -/
def ghost : sProp 𝕄 :=
  iprop((bigSep Finset.univ fun d : Fin 2 => dutyTok ER (barCell (src d c)) 0 d)
    ∗ cred (tallyAt (barCell c) () 2) ∗ atPos ER (barCell c) 0 ∅ 0
    ∗ each3 (tokens (F := F) c) ∗ each3 (due' (F := F) c))

/-- What device `c` has of buffers to start with. -/
def bufs : sProp 𝕄 :=
  iprop((bigSep Finset.univ fun j : Fin 4 => each (Ld x c j)) ∗ each (idle (F := F) c)
    ∗ (each fun q => own0 (F := F) c (pSend q.1 q.2))
    ∗ (each3 fun h q => own0 (F := F) c (pComm q.1 h q.2))
    ∗ each fun q => own0 (F := F) c (pOut q.1 q.2))

/-- What device `c` ends with: the buffers, its result in the output, and every semaphore at zero. -/
def done : sProp 𝕄 :=
  iprop(each (idle (F := F) c)
    ∗ (each fun q => own0 (F := F) c (pSend q.1 q.2))
    ∗ (each3 fun h q => own0 (F := F) c (pComm q.1 h q.2))
    ∗ (each fun q => own1 c (pOut q.1 q.2) (val x q 3 c))
    ∗ semVal (barCell c) 0 ∗ (each3 fun h q => semVal (sendCell c h q) 0) ∗ each3 fun h q => semVal (recvCell c h q) 0)

/-- A separating conjunction over four, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What a hop needs before it sends: the landing blocks of the neighbours, and the hop's tokens. -/
theorem each_ready (h : Fin 3) : each (ready (F := F) c h)
    = iprop((each fun q => own0 (F := F) (peer q.1 c) (pComm q.1 h q.2)) ∗ each (tokens (F := F) c h)) := by
  unfold each
  rw [← bigSep_sep']; rfl

/-- The body at device `c`. -/
theorem wp_bodyAt :
    iprop(Ctx x K ∗ ghost (F := F) c ∗ bufs x c ∗ owe c (Oinit c))
      ⊢ iprop((iprop(done x c ∗ owe c 0) -∗ Q ⟨⟩) -∗ wpAt c (bodyAt c) Q) := by
  unfold ghost bufs
  rw [bigSep_fin4, each3_eq (tokens c), each3_eq (due' c), ← comm_eq fun _ => c]
  iintro ⟨#HC, ⟨Hbt, Hbc, Hba, ⟨Ht0, Ht1, Ht2⟩, ⟨Hr0, Hr1, Hr2⟩⟩, ⟨⟨Hx0, Hx1, Hx2, Hx3⟩, Hi, Hsb, Hcb, Hob⟩, HO⟩ Hk
  unfold bodyAt
  -- the first loads
  iapply (wp_phase0 x K c 0 (fun q => iprop(Ld x c 0 q ∗ idle (F := F) c q)) (flight x c 0) (step0 x K c) (Oinit c)
    (above_Oinit c) byDir univ_byDir byDir_nodup) $$ [Hx0 Hi HO]
  · isplitr; · iexact HC
    isplitr [HO]
    · unfold each; rw [bigSep_sep']; isplitl [Hx0] <;> iassumption
    iexact HO
  iintro ⟨Hf, HO⟩
  -- the barrier
  iapply (wp_barrier x K c) $$ [Hcb Hbt Hbc Hba HO]
  · isplitr; · iexact HC
    isplitl [Hcb]; · iexact Hcb
    isplitl [Hbt]; · iexact Hbt
    isplitl [Hbc]; · iexact Hbc
    isplitl [Hba] <;> iassumption
  rw [comm_eq fun d => peer d c, each3_eq]
  iintro ⟨⟨Hc0, Hc1, Hc2⟩, Hzb, HO⟩
  -- the first sends
  iapply (wp_phase x K c 0 (due c 0) (fun q => Above.due c 0 q (by decide))
    (fun q => iprop(flight x c 0 q ∗ Ld x c 1 q ∗ own0 (F := F) c (pSend q.1 q.2) ∗ ready (F := F) c 0 q))
    (fun q => iprop(flight x c 1 q ∗ sent (F := F) c 0 q)) (step1 x K c) (O₁ c) ((above_O₁ c).mono (by decide))
    byBlock univ_byBlock byBlock_nodup) $$ [Hf Hx1 Hsb Hc0 Ht0 HO]
  · isplitr; · iexact HC
    isplitr [HO]
    · unfold each; rw [bigSep_sep', bigSep_sep', bigSep_sep']
      isplitl [Hf]; · iexact Hf
      isplitl [Hx1]; · iexact Hx1
      isplitl [Hsb]; · iexact Hsb
      iapply (Entails.of_eq (each_ready c 0).symm)
      isplitl [Hc0] <;> iassumption
    iexact HO
  unfold each; rw [bigSep_sep']
  iintro ⟨⟨Hf, Hs0⟩, HO⟩
  -- the two hops that forward
  iapply (wp_phase x K c 2 (due c 1) (fun q => Above.due c 1 q (by decide))
    (fun q => iprop(flight x c 1 q ∗ Ld x c 2 q ∗ due' (F := F) c 0 q ∗ ready (F := F) c 1 q))
    (fun q => iprop(flight x c 2 q ∗ sent (F := F) c 1 q ∗ semVal (recvCell c 0 q) 0)) (stepHop x K c 0) (O₂ c)
    ((above_O₂ c).mono (by decide)) byBlock univ_byBlock byBlock_nodup) $$ [Hf Hx2 Hr0 Hc1 Ht1 HO]
  · isplitr; · iexact HC
    isplitr [HO]
    · unfold each; rw [bigSep_sep', bigSep_sep', bigSep_sep']
      isplitl [Hf]; · iexact Hf
      isplitl [Hx2]; · iexact Hx2
      isplitl [Hr0]; · iexact Hr0
      iapply (Entails.of_eq (each_ready c 1).symm)
      isplitl [Hc1] <;> iassumption
    iexact HO
  unfold each; rw [bigSep_sep', bigSep_sep']
  iintro ⟨⟨Hf, Hs1, Hz0⟩, HO⟩
  iapply (wp_phase x K c 3 (due c 2) (fun q => Above.due c 2 q (by decide))
    (fun q => iprop(flight x c 2 q ∗ Ld x c 3 q ∗ due' (F := F) c 1 q ∗ ready (F := F) c 2 q))
    (fun q => iprop(flight x c 3 q ∗ sent (F := F) c 2 q ∗ semVal (recvCell c 1 q) 0)) (stepHop x K c 1) 0
    (Above.zero 3) byBlock univ_byBlock byBlock_nodup) $$ [Hf Hx3 Hr1 Hc2 Ht2 HO]
  · isplitr; · iexact HC
    isplitr [HO]
    · unfold each; rw [bigSep_sep', bigSep_sep', bigSep_sep']
      isplitl [Hf]; · iexact Hf
      isplitl [Hx3]; · iexact Hx3
      isplitl [Hr1]; · iexact Hr1
      iapply (Entails.of_eq (each_ready c 2).symm)
      isplitl [Hc2] <;> iassumption
    iexact HO
  unfold each; rw [bigSep_sep', bigSep_sep']
  iintro ⟨⟨Hf, Hs2, Hz1⟩, HO⟩
  -- the last hop
  iapply (wp_phase0 x K c 4
    (fun q => iprop(flight x c 3 q ∗ due' (F := F) c 2 q ∗ own0 (F := F) c (pOut q.1 q.2)))
    (fun q => iprop(idle (F := F) c q ∗ semVal (recvCell c 2 q) 0 ∗ own0 (F := F) c (pComm q.1 2 q.2)
      ∗ own1 c (pOut q.1 q.2) (val x q 3 c))) (stepLast x K c) 0
    (Above.zero 4) byBlock univ_byBlock byBlock_nodup) $$ [Hf Hr2 Hob HO]
  · isplitr; · iexact HC
    isplitr [HO]
    · unfold each; rw [bigSep_sep', bigSep_sep']
      isplitl [Hf]; · iexact Hf
      isplitl [Hr2] <;> iassumption
    iexact HO
  unfold each; rw [bigSep_sep', bigSep_sep', bigSep_sep']
  iintro ⟨⟨Hi, Hz2, Hb2, Hob⟩, HO⟩
  -- the waits for the sends
  iapply (wp_phase0 x K c 0 (sent (F := F) c 0) _ (stepSent x K c 0) 0
    (Above.zero 0) byBlock univ_byBlock byBlock_nodup) $$ [Hs0 HO]
  · isplitr; · iexact HC
    isplitl [Hs0] <;> iassumption
  unfold each; rw [bigSep_sep']
  iintro ⟨⟨Hy0, Hsb⟩, HO⟩
  iapply (wp_phase0 x K c 0 (sent (F := F) c 1) _ (stepSent x K c 1) 0
    (Above.zero 0) byBlock univ_byBlock byBlock_nodup) $$ [Hs1 HO]
  · isplitr; · iexact HC
    isplitl [Hs1] <;> iassumption
  unfold each; rw [bigSep_sep']
  iintro ⟨⟨Hy1, Hb0⟩, HO⟩
  iapply (wp_phase0 x K c 0 (sent (F := F) c 2) _ (stepSent x K c 2) 0
    (Above.zero 0) byBlock univ_byBlock byBlock_nodup) $$ [Hs2 HO]
  · isplitr; · iexact HC
    isplitl [Hs2] <;> iassumption
  unfold each; rw [bigSep_sep']
  iintro ⟨⟨Hy2, Hb1⟩, HO⟩
  unfold wpAt
  rw [wp_ret]; imodintro
  iapply Hk
  isplitr [HO]
  · unfold done
    rw [each3_eq, each3_eq, each3_eq]
    isplitl [Hi]; · iexact Hi
    isplitl [Hsb]; · iexact Hsb
    isplitl [Hb0 Hb1 Hb2]
    · isplitl [Hb0]; · iexact Hb0
      isplitl [Hb1]; · iexact Hb1
      iexact Hb2
    isplitl [Hob]; · iexact Hob
    isplitl [Hzb]; · iexact Hzb
    isplitl [Hy0 Hy1 Hy2]
    · isplitl [Hy0]; · iexact Hy0
      isplitl [Hy1] <;> iassumption
    isplitl [Hz0]; · iexact Hz0
    isplitl [Hz1] <;> iassumption
  iexact HO

end Cert.Proof

end
-- ==== Proof.Blocks.lean ====
/- A buffer as the streams' parts of it: the staging buffers and the output by stream, the landing buffers
   by hop and block, the argument by load and stream. -/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Contents forgotten. -/
theorem own0_intro (c : Dev nD) {sp : Space} {sh : Shape} {e : EltTy} (M : Memref sig .tc sp sh e)
    (X : sh.Idx → Elt F e) : own1 c M X ⊢ own0 (F := F) c M := by
  unfold own0
  iintro H
  iexists X; iexact H

/-! ## Rectangles told apart by a tag -/

section Tag

variable {sh : Shape} {T : Type} [Fintype T] [DecidableEq T] {r : T → Rect sh} {tag : sh.Idx → T}
  (ht : ∀ t i, i ∈ (r t).set ↔ tag i = t)
include ht

omit [Fintype T] [DecidableEq T] in
/-- Rectangles that hold the indices of their own tag are disjoint, -/
theorem tag_disjoint (t t' : T) (h : t ≠ t') : Disjoint (r t).set (r t').set :=
  Finset.disjoint_left.mpr fun i hi hi' => h (((ht t i).mp hi).symm.trans ((ht t' i).mp hi'))

omit [DecidableEq T] in
/-- and cover the shape. -/
theorem tag_cover : (Finset.univ : Finset T).biUnion (fun t => (r t).set) = Finset.univ :=
  Finset.eq_univ_of_forall fun i => Finset.mem_biUnion.mpr ⟨tag i, Finset.mem_univ _, (ht _ i).mpr rfl⟩

variable (c : Dev nD) {sp : Space} {e : EltTy} (M : Memref sig .tc sp sh e) (hr : ∀ t a, (r t).stride a = 1)

/-- A memref at some contents is its slices at some contents, -/
theorem own0_split : own0 (F := F) c M ⊢ bigSep Finset.univ fun t => own0 (F := F) c (M.slice (r t) (hr t)) := by
  have key : ∀ X, own1 c M X ⊢ bigSep Finset.univ fun t => own0 (F := F) c (M.slice (r t) (hr t)) := fun X =>
    (owns_rects (c : Thread nD τ) M fullShare r hr (tag_disjoint ht) (tag_cover ht) X).trans
      (bigSep_mono fun t _ => own0_intro c _ _)
  rw [show own0 (F := F) c M = iprop(∃ X, own1 c M X) from rfl]
  iintro ⟨%X, H⟩
  iapply (key X) $$ H

/-- and back. -/
theorem own0_join (f₀ : M.view.ty.Contents (Elt F)) :
    (bigSep Finset.univ fun t => own0 (F := F) c (M.slice (r t) (hr t))) ⊢ own0 (F := F) c M := by
  refine (bigSep_mono fun t _ => (?_ : _ ⊢ iprop(∃ f, M.view.loc (c : Thread nD τ) ↦[(M.view.slice (r t)).set]{fullShare} f))).trans ?_
  · unfold own0 own1 ownsTc owns
    iintro ⟨%X, %f, -, H⟩
    iexists f; iexact H
  have hd : ∀ t t', t ≠ t' → Disjoint (M.view.slice (r t)).set (M.view.slice (r t')).set := fun t t' h => by
    rw [View.set_slice, View.set_slice]; exact (Finset.disjoint_map _).mpr (tag_disjoint ht t t' h)
  have hc : Finset.univ.biUnion (fun t => (M.view.slice (r t)).set) = M.view.set := by
    ext i
    constructor
    · intro hi
      obtain ⟨t, -, hi⟩ := Finset.mem_biUnion.mp hi
      exact View.set_slice_subset _ _ hi
    · intro hi
      rw [View.set, Finset.mem_map] at hi
      obtain ⟨j, -, rfl⟩ := hi
      exact Finset.mem_biUnion.mpr ⟨tag j, Finset.mem_univ _, by
        rw [View.set_slice]; exact Finset.mem_map_of_mem _ ((ht _ j).mpr rfl)⟩
  refine (Ring.pointsTo_sub_blocks_join_exists (ℓ := M.view.loc (c : Thread nD τ))
    (fun t => (M.view.slice (r t)).set) hd M.view.set hc (q := fullShare) f₀).trans ?_
  unfold own0 own1
  iintro ⟨%g, H⟩
  iexists _
  iapply (owns_intro (c : Thread nD τ) M fullShare g) $$ H

end Tag

/-! ## A slice and its squeezed form -/

section Squeeze

variable (c : Dev nD) {sp : Space} {sh s' : Shape} {e : EltTy} (M : Memref sig .tc sp sh e) (hq : sh.Squeezes s')

/-- A memref owned at `X` is, squeezed, owned at `X` cast. -/
theorem own_squeeze (q : PosShare TreeShare) (X : sh.Idx → Elt F e) :
    ownsTc c M q X ⊢ (ownsTc c (M.squeeze s' hq) q (shapeCast s' X hq.numel_eq) : sProp 𝕄) := by
  unfold ownsTc owns
  iintro ⟨%f, %hf, H⟩
  iexists f
  isplitr
  · ipureintro; rw [← hf]; rfl
  rw [show (M.squeeze s' hq).view.set = M.view.set from View.set_reshape _ _]
  iexact H

/-- A memref owned at any contents is so after a squeeze, -/
theorem own0_squeeze : own0 (F := F) c M ⊢ own0 (F := F) c (M.squeeze s' hq) := by
  unfold own0 own1
  iintro ⟨%X, H⟩
  iexists _
  iapply (own_squeeze c M hq fullShare X) $$ H

/-- and before one. -/
theorem own0_unsqueeze : own0 (F := F) c (M.squeeze s' hq) ⊢ own0 (F := F) c M := by
  unfold own0 own1 ownsTc owns
  iintro ⟨%X, %f, -, H⟩
  iexists _, f
  isplitr; · ipureintro; rfl
  rw [show (M.squeeze s' hq).view.set = M.view.set from View.set_reshape _ _]
  iexact H

end Squeeze

/-! ## The buffers -/

/-- The stream of an index of a buffer of two slots, -/
def tag2 (i : S2x2048x1024.Idx) : Str :=
  (⟨(i 0).val, (i 0).isLt⟩, ⟨(i 1).val / 128, by have : (i 1).val < 2048 := (i 1).isLt; omega⟩)

/-- the hop and block of an index of a landing buffer, -/
def tag3 (i : S3x2048x1024.Idx) : Fin 3 × Fin 16 :=
  (⟨(i 0).val, (i 0).isLt⟩, ⟨(i 1).val / 128, by have : (i 1).val < 2048 := (i 1).isLt; omega⟩)

/-- the stream of an index of the output, -/
def tagO (i : S4096x1024.Idx) : Str :=
  (⟨(i 0).val / 2048, by have : (i 0).val < 4096 := (i 0).isLt; omega⟩,
    ⟨(i 0).val / 128 % 16, by omega⟩)

/-- A stream's block of a buffer of two slots holds the indices of that stream. -/
theorem mem_r2 (q : Str) (i : S2x2048x1024.Idx) : i ∈ (r2 q.1 q.2).set ↔ tag2 i = q := by
  obtain ⟨d, s⟩ := q
  have h0 : (i 0).val < 2 := (i 0).isLt
  have h1 : (i 1).val < 2048 := (i 1).isLt
  have h2 : (i 2).val < 1024 := (i 2).isLt
  rw [Rect.mem_set_unit, Fin.forall_fin_succ, Fin.forall_fin_succ, Fin.forall_fin_succ]
  simp only [tag2, Prod.mk.injEq, Fin.ext_iff]
  constructor
  · rintro ⟨⟨a, a'⟩, ⟨b, b'⟩, -⟩
    have a : d.val ≤ (i 0).val := a
    have a' : (i 0).val < d.val + 1 := a'
    have b : 128 * s.val ≤ (i 1).val := b
    have b' : (i 1).val < 128 * s.val + 128 := b'
    omega
  · rintro ⟨a, b⟩
    refine ⟨?_, ?_, ?_, fun a => a.elim0⟩
    · show d.val ≤ (i 0).val ∧ (i 0).val < d.val + 1; omega
    · show 128 * s.val ≤ (i 1).val ∧ (i 1).val < 128 * s.val + 128; omega
    · show 0 ≤ (i 2).val ∧ (i 2).val < 0 + 1024; omega

/-- A block of a landing buffer holds the indices of its hop and block. -/
theorem mem_r3 (q : Fin 3 × Fin 16) (i : S3x2048x1024.Idx) : i ∈ (r3 q.1 q.2).set ↔ tag3 i = q := by
  obtain ⟨d, s⟩ := q
  have h0 : (i 0).val < 3 := (i 0).isLt
  have h1 : (i 1).val < 2048 := (i 1).isLt
  have h2 : (i 2).val < 1024 := (i 2).isLt
  rw [Rect.mem_set_unit, Fin.forall_fin_succ, Fin.forall_fin_succ, Fin.forall_fin_succ]
  simp only [tag3, Prod.mk.injEq, Fin.ext_iff]
  constructor
  · rintro ⟨⟨a, a'⟩, ⟨b, b'⟩, -⟩
    have a : d.val ≤ (i 0).val := a
    have a' : (i 0).val < d.val + 1 := a'
    have b : 128 * s.val ≤ (i 1).val := b
    have b' : (i 1).val < 128 * s.val + 128 := b'
    omega
  · rintro ⟨a, b⟩
    refine ⟨?_, ?_, ?_, fun a => a.elim0⟩
    · show d.val ≤ (i 0).val ∧ (i 0).val < d.val + 1; omega
    · show 128 * s.val ≤ (i 1).val ∧ (i 1).val < 128 * s.val + 128; omega
    · show 0 ≤ (i 2).val ∧ (i 2).val < 0 + 1024; omega

/-- A stream's block of the output holds the indices of that stream. -/
theorem mem_rO (q : Str) (i : S4096x1024.Idx) : i ∈ (rO q.1 q.2).set ↔ tagO i = q := by
  obtain ⟨d, s⟩ := q
  have h0 : (i 0).val < 4096 := (i 0).isLt
  have h1 : (i 1).val < 1024 := (i 1).isLt
  rw [Rect.mem_set_unit, Fin.forall_fin_succ, Fin.forall_fin_succ]
  simp only [tagO, Prod.mk.injEq, Fin.ext_iff]
  constructor
  · rintro ⟨⟨a, a'⟩, -⟩
    have a : 2048 * d.val + 128 * s.val ≤ (i 0).val := a
    have a' : (i 0).val < 2048 * d.val + 128 * s.val + 128 := a'
    omega
  · rintro ⟨a, b⟩
    refine ⟨?_, ?_, fun a => a.elim0⟩
    · show 2048 * d.val + 128 * s.val ≤ (i 0).val ∧ (i 0).val < 2048 * d.val + 128 * s.val + 128; omega
    · show 0 ≤ (i 1).val ∧ (i 1).val < 0 + 1024; omega

/-- The chunk of columns of load `j` of a direction at device `c`, -/
def chunk (c : Dev nD) (d : Fin 2) (j : Fin 4) : Fin 4 :=
  ⟨(match d with | 0 => c.val + 3 - j.val | 1 => c.val + 1 + j.val) % 4, Nat.mod_lt _ (by decide)⟩

/-- and the load of a chunk. -/
def loadOf (c : Dev nD) (d : Fin 2) (k : Fin 4) : Fin 4 :=
  ⟨(match d with | 0 => c.val + 7 - k.val | 1 => k.val + 7 - c.val) % 4, Nat.mod_lt _ (by decide)⟩

/-- The first column of a load, as the kernel computes it, is the first column of its chunk. -/
theorem xcol_eq : ∀ (c : Dev nD) (d : Fin 2) (j : Fin 4),
    (xcol d c (xarg d j).1 (xarg d j).2).toNat = 1024 * (chunk c d j).val := by decide +kernel
/-- The load of a load's chunk is that load, -/
theorem loadOf_chunk : ∀ (c : Dev nD) (d : Fin 2) (j : Fin 4), loadOf c d (chunk c d j) = j := by decide +kernel
/-- and the chunk of a chunk's load is that chunk. -/
theorem chunk_loadOf : ∀ (c : Dev nD) (d : Fin 2) (k : Fin 4), chunk c d (loadOf c d k) = k := by decide +kernel

/-- The load and stream of an index of the argument of device `c`. -/
def tagX (c : Dev nD) (i : S1x4096x4096.Idx) : Fin 4 × Str :=
  (loadOf c ⟨(i 1).val / 2048, by have : (i 1).val < 4096 := (i 1).isLt; omega⟩
      ⟨(i 2).val / 1024, by have : (i 2).val < 4096 := (i 2).isLt; omega⟩,
    ⟨(i 1).val / 2048, by have : (i 1).val < 4096 := (i 1).isLt; omega⟩, ⟨(i 1).val / 128 % 16, by omega⟩)

/-- What a load of a stream reads are the indices of that load and stream. -/
theorem mem_rX (c : Dev nD) (q : Fin 4 × Str) (i : S1x4096x4096.Idx) :
    i ∈ (rX c q.2.1 q.2.2 q.1).set ↔ tagX c i = q := by
  obtain ⟨j, d, s⟩ := q
  have h0 : (i 0).val < 1 := (i 0).isLt
  have h1 : (i 1).val < 4096 := (i 1).isLt
  have h2 : (i 2).val < 4096 := (i 2).isLt
  rw [Rect.mem_set_unit, Fin.forall_fin_succ, Fin.forall_fin_succ, Fin.forall_fin_succ]
  have hx := xcol_eq c d j
  constructor
  · rintro ⟨-, ⟨b, b'⟩, ⟨e, e'⟩, -⟩
    have b : 2048 * d.val + 128 * s.val ≤ (i 1).val := b
    have b' : (i 1).val < 2048 * d.val + 128 * s.val + 128 := b'
    have e : (xcol d c (xarg d j).1 (xarg d j).2).toNat ≤ (i 2).val := e
    have e' : (i 2).val < (xcol d c (xarg d j).1 (xarg d j).2).toNat + 1024 := e'
    have hd : (⟨(i 1).val / 2048, by omega⟩ : Fin 2) = d := Fin.ext (by show (i 1).val / 2048 = d.val; omega)
    have hs : (⟨(i 1).val / 128 % 16, by omega⟩ : Fin 16) = s := Fin.ext (by show (i 1).val / 128 % 16 = s.val; omega)
    have hk : (⟨(i 2).val / 1024, by omega⟩ : Fin 4) = chunk c d j := Fin.ext (by
      show (i 2).val / 1024 = (chunk c d j).val; omega)
    show (loadOf c _ _, _, _) = _
    rw [hd, hs, hk, loadOf_chunk]
  · intro h
    have hd : (⟨(i 1).val / 2048, by omega⟩ : Fin 2) = d := congrArg (fun q => q.2.1) h
    have hs : (⟨(i 1).val / 128 % 16, by omega⟩ : Fin 16) = s := congrArg (fun q => q.2.2) h
    have hj : loadOf c ⟨(i 1).val / 2048, by omega⟩ ⟨(i 2).val / 1024, by omega⟩ = j := congrArg (fun q => q.1) h
    rw [hd] at hj
    have hk := congrArg Fin.val ((chunk_loadOf c d ⟨(i 2).val / 1024, by omega⟩).symm.trans (congrArg (chunk c d) hj))
    have hk : (i 2).val / 1024 = (chunk c d j).val := hk
    have hd : (i 1).val / 2048 = d.val := congrArg Fin.val hd
    have hs : (i 1).val / 128 % 16 = s.val := congrArg Fin.val hs
    refine ⟨?_, ?_, ?_, fun a => a.elim0⟩
    · show 0 ≤ (i 0).val ∧ (i 0).val < 0 + 1; omega
    · show 2048 * d.val + 128 * s.val ≤ (i 1).val ∧ (i 1).val < 2048 * d.val + 128 * s.val + 128; omega
    · show (xcol d c (xarg d j).1 (xarg d j).2).toNat ≤ (i 2).val
        ∧ (i 2).val < (xcol d c (xarg d j).1 (xarg d j).2).toNat + 1024
      omega

variable (c : Dev nD)

/-- A buffer of two slots by stream, -/
theorem two_split {e : EltTy} (M : Memref sig .tc .vmem S2x2048x1024 e) :
    own0 (F := F) c M ⊢ each fun q => own0 (F := F) c
      ((M.slice (r2 q.1 q.2) (fun _ => rfl)).squeeze S128x1024 squeezes_S1x128x1024_S128x1024) :=
  (own0_split mem_r2 c M fun _ _ => rfl).trans (bigSep_mono fun _ _ => own0_squeeze c _ _)

/-- and back; -/
theorem two_join {e : EltTy} (M : Memref sig .tc .vmem S2x2048x1024 e) (f₀ : M.view.ty.Contents (Elt F)) :
    (each fun q => own0 (F := F) c
      ((M.slice (r2 q.1 q.2) (fun _ => rfl)).squeeze S128x1024 squeezes_S1x128x1024_S128x1024)) ⊢ own0 (F := F) c M :=
  (bigSep_mono fun _ _ => own0_unsqueeze c _ _).trans (own0_join mem_r2 c M (fun _ _ => rfl) f₀)

/-- a landing buffer by hop and block, -/
theorem comm_split (d : Fin 2) : own0 (F := F) c (mComm d) ⊢ commAny (F := F) d c := by
  unfold commAny
  rw [← bigSep_univ_prod (fun q : Fin 3 × Fin 16 => own0 (F := F) c (pComm d q.1 q.2))]
  exact (own0_split mem_r3 c (mComm d) fun _ _ => rfl).trans (bigSep_mono fun _ _ => own0_squeeze c _ _)

/-- and back; -/
theorem comm_join (d : Fin 2) (f₀ : (mComm d).view.ty.Contents (Elt F)) :
    commAny (F := F) d c ⊢ own0 (F := F) c (mComm d) := by
  unfold commAny
  rw [← bigSep_univ_prod (fun q : Fin 3 × Fin 16 => own0 (F := F) c (pComm d q.1 q.2))]
  exact (bigSep_mono fun _ _ => own0_unsqueeze c _ _).trans (own0_join mem_r3 c (mComm d) (fun _ _ => rfl) f₀)

/-- the output by stream. -/
theorem out_split : own0 (F := F) c mOut ⊢ each fun q => own0 (F := F) c (pOut q.1 q.2) :=
  own0_split mem_rO c mOut fun _ _ => rfl

variable (x : (c : Dev nD) → Buf (Elt F) ((c : Thread nD τ).loc main_arg0))

/-- The argument's share for the loads, by load and stream. -/
theorem arg_split : ((c : Thread nD τ).loc main_arg0 ↦{qx} x c : sProp 𝕄)
    ⊢ bigSep Finset.univ fun j : Fin 4 => each (Ld x c j) := by
  rw [← owns_whole]
  unfold each
  rw [← bigSep_univ_prod (fun q : Fin 4 × Str => Ld x c q.1 q.2)]
  refine (owns_rects (c : Thread nD τ) mX qx (fun q : Fin 4 × Str => rX c q.2.1 q.2.2 q.1) (fun _ _ => rfl)
    (tag_disjoint (mem_rX c)) (tag_cover (mem_rX c)) (x c)).trans (bigSep_mono fun q _ => ?_)
  exact own_squeeze c _ _ qx _

/-- The index within its block of an index of the output. -/
def inO (i : S4096x1024.Idx) : S128x1024.Idx
  | 0 => ⟨(i 0).val % 128, Nat.mod_lt _ (by decide)⟩
  | 1 => i 1

/-- The result of device `c`. -/
def outAt (i : S4096x1024.Idx) : Elt F .bf16 := val x (tagO i) 3 c (inO i)

/-- The output's blocks at the streams' values are the output at the result. -/
theorem out_join : (each fun q => own1 c (pOut q.1 q.2) (val x q 3 c)) ⊢ own1 c mOut (outAt c x) := by
  refine (bigSep_mono fun q _ => Entails.of_eq (congrArg (own1 c (pOut q.1 q.2)) (funext fun j => ?_))).trans
    (owns_of_rects (c : Thread nD τ) mOut fullShare (fun q : Str => rO q.1 q.2) (fun _ _ => rfl)
      (tag_disjoint mem_rO) (tag_cover mem_rO) (outAt c x))
  have hq : tagO ((rO q.1 q.2).emb j) = q := (mem_rO q _).mp (by
    rw [← Rect.map_emb_univ]; exact Finset.mem_map_of_mem _ (Finset.mem_univ j))
  have hj : inO ((rO q.1 q.2).emb j) = j := by
    funext a
    have hj0 : (j 0).val < 128 := (j 0).isLt
    match a with
    | 0 => exact Fin.ext (by
        show (2048 * q.1.val + 128 * q.2.val + 1 * (j 0).val) % 128 = (j 0).val; omega)
    | 1 => exact Fin.ext (by show 0 + 1 * (j 1).val = (j 1).val; omega)
  show val x q 3 c j = outAt c x ((rO q.1 q.2).emb j)
  unfold outAt
  rw [hq, hj]

end Cert.Proof

end
-- ==== Proof.Alloc.lean ====
/- The protocol's resources at launch: the cells' records and tokens, dealt to the devices that use them,
   and the credit for what the devices owe one another. -/
module

public import proofs.«01_k».proof.Proof.Body
public import proofs.«01_k».proof.Proof.Gen.KernelIdeal.Launch

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ownSems0 launchCred launchCred_add launchCred_zero launchCred_tallyAt)

variable {F : FTy → Type} [FloatOps F]

local notation "𝕄" => MT nD τ sig Unit (Elt F) ℕ UU ℕ

variable (x : (c : Dev nD) → Buf (Elt F) ((c : Thread nD τ).loc main_arg0)) (c : Dev nD)

/-! ## The cells and their tokens -/

/-- The cell of a device and an index. -/
abbrev kcell (ck : Dev nD × CK) : GSem nD τ sig := cell ck.1 ck.2

/-- Different devices or indices have different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- All the cells of all the devices. -/
def theCells : Finset (GSem nD τ sig) := Finset.univ.map ⟨kcell, kcell_injective⟩

/-- The duties of a device's cells: the barrier's two, and one of each send and landing cell. -/
abbrev DK : Type := Fin 2 ⊕ (Fin 3 × Str) ⊕ (Fin 3 × Str)

/-- The token of a duty: its cell, the round, which is the first, and the duty's number there. -/
def tok (c : Dev nD) : DK → GSem nD τ sig × ℕ × Fin 2
  | .inl d => (barCell c, 0, d)
  | .inr k => (cell c (.inr k), 0, 0)

/-- Different duties have different tokens. -/
theorem tok_injective : Function.Injective fun ck : Dev nD × DK => tok ck.1 ck.2 := by
  rintro ⟨c, k⟩ ⟨c', k'⟩ h
  have hk := congrArg (fun t : GSem nD τ sig × ℕ × Fin 2 => t.1) h
  have hd := congrArg (fun t : GSem nD τ sig × ℕ × Fin 2 => t.2.2) h
  rcases k with d | k <;> rcases k' with d' | k'
  · have hc : ((c, .inl ()) : Dev nD × CK) = (c', .inl ()) := kcell_injective hk
    have hc : c = c' := congrArg Prod.fst hc
    have hd : d = d' := hd
    rw [hc, hd]
  · have hc : ((c, .inl ()) : Dev nD × CK) = (c', .inr k') := kcell_injective hk
    exact absurd (congrArg Prod.snd hc) (by simp)
  · have hc : ((c, .inr k) : Dev nD × CK) = (c', .inl ()) := kcell_injective hk
    exact absurd (congrArg Prod.snd hc) (by simp)
  · have hc : ((c, .inr k) : Dev nD × CK) = (c', .inr k') := kcell_injective hk
    have h1 : c = c' := congrArg Prod.fst hc
    have h2 : k = k' := Sum.inr.inj (congrArg Prod.snd hc)
    rw [h1, h2]

/-- The tokens of all the duties of all the devices. -/
def theToks : Finset (GSem nD τ sig × ℕ × Fin 2) := Finset.univ.map ⟨fun ck : Dev nD × DK => tok ck.1 ck.2, tok_injective⟩

/-- The launch element: the pipeline's, the schedule's, and no counter. -/
def u₀ : UU :=
  (initOf (Pipeline.cells cfgs cellOf_inj) (Pipeline.launchToks cfgs cellOf_inj), (initOf theCells theToks, (1 : Counters)))

/-- The launch element is the pipeline's part beside the schedule's. -/
theorem own_u₀ : (ownU u₀ : sProp 𝕄)
    ⊢ iprop(BI.own (EP (F := F) (initOf (Pipeline.cells cfgs cellOf_inj) (Pipeline.launchToks cfgs cellOf_inj)))
      ∗ BI.own (ER (F := F) (initOf theCells theToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf theCells theToks, (1 : Counters)))))

/-- The tokens of the duties of device `c`'s cells, -/
def toks : sProp 𝕄 :=
  iprop((bigSep Finset.univ fun d : Fin 2 => dutyTok ER (barCell c) 0 d)
    ∗ (each3 fun h q => dutyTok ER (sendCell c h q) 0 (0 : Fin 2)) ∗ each3 fun h q => dutyTok ER (recvCell c h q) 0 (0 : Fin 2))

/-- and of the duties device `c` fulfils. -/
def payToks : sProp 𝕄 :=
  iprop((bigSep Finset.univ fun d : Fin 2 => dutyTok ER (barCell (src d c)) 0 d)
    ∗ (each3 fun h q => dutyTok ER (sendCell c h q) 0 (0 : Fin 2))
    ∗ each3 fun h q => dutyTok ER (recvCell (peer q.1 c) h q) 0 (0 : Fin 2))

/-- Resources of the devices, each shifted around the devices by its own permutation. -/
theorem around {I : Type} [Fintype I] (f : I → Dev nD ≃ Dev nD) (Φ : Dev nD → I → sProp 𝕄) :
    (bigSep Finset.univ fun c : Dev nD => bigSep Finset.univ fun i => Φ c i)
      = bigSep Finset.univ fun c : Dev nD => bigSep Finset.univ fun i => Φ (f i c) i := by
  rw [bigSep_univ_comm, bigSep_univ_comm (fun (c : Dev nD) i => Φ (f i c) i)]
  exact bigSep_congr fun i _ => bigSep_univ_equiv (f i) fun c => Φ c i

/-- One of each hop and stream is one of each pair of them. -/
theorem each3_prod (Φ : Fin 3 → Str → sProp 𝕄) : each3 Φ = bigSep Finset.univ fun hq : Fin 3 × Str => Φ hq.1 hq.2 :=
  (bigSep_univ_prod fun hq : Fin 3 × Str => Φ hq.1 hq.2).symm

/-- The tokens go to the devices that fulfil the duties. -/
theorem toks_around : (bigSep Finset.univ fun c : Dev nD => toks (F := F) c)
    = bigSep Finset.univ fun c : Dev nD => payToks (F := F) c := by
  unfold toks payToks
  simp only [each3_prod]
  rw [bigSep_sep', bigSep_sep', bigSep_sep', bigSep_sep',
    around (fun d => (ring d).symm) (fun c (d : Fin 2) => dutyTok ER (barCell c) 0 d),
    around (fun hq : Fin 3 × Str => ring hq.2.1) (fun c hq => dutyTok ER (recvCell c hq.1 hq.2) 0 (0 : Fin 2))]
  rfl

/-- The tokens of all a device's duties, sorted by kind of cell. -/
theorem toks_eq : (bigSep Finset.univ fun k : DK => dutyTok ER (tok c k).1 (tok c k).2.1 (tok c k).2.2) = toks (F := F) c := by
  unfold toks
  simp only [each3_prod]
  rw [bigSep_univ_sum, bigSep_univ_sum]
  rfl

/-! ## Dealing the launch element -/

/-- What the launch element gives device `c`. -/
def dealt : sProp 𝕄 :=
  iprop((bigSep Finset.univ fun k : CK => roundState ER (Rd x) (cell c k) 0)
    ∗ (bigSep Finset.univ fun k : CK => iprop(atPos ER (cell c k) 0 ∅ 0 ∗ reached ER (cell c k) 0)) ∗ toks (F := F) c)

/-- The schedule's launch element, dealt out to the devices. -/
theorem deal : BI.own (ER (F := F) (initOf theCells theToks)) ⊢ (|==> bigSep Finset.univ (dealt x) : sProp 𝕄) := by
  have hX (Φ : GSem nD τ sig → sProp 𝕄) : bigSep theCells Φ
      = bigSep Finset.univ fun c : Dev nD => bigSep Finset.univ fun k : CK => Φ (cell c k) := by
    unfold theCells; rw [bigSep_map, bigSep_univ_prod]; rfl
  have hT : bigSep theToks (fun t => (dutyTok ER t.1 t.2.1 t.2.2 : sProp 𝕄))
      = bigSep Finset.univ fun c : Dev nD => toks (F := F) c := by
    unfold theToks; rw [bigSep_map, bigSep_univ_prod]
    exact bigSep_congr fun c _ => toks_eq c
  iintro HX
  imod (Rounds.fund ER (Rd x) theCells theToks) $$ HX with ⟨Hst, Hr, Hat, Htok⟩
  imodintro
  ihave Hst := (Entails.of_eq (hX fun g => roundState ER (Rd x) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The semaphores -/

/-- The loads' semaphores of device `c`, at zero. -/
abbrev loads : sProp 𝕄 := each fun q => semVal ((c : Thread nD τ), SemLoc.dma (sLoad q.1 q.2)) 0

/-- The semaphore outside the kernel's scope is the barrier's. -/
theorem unscoped_eq : (unscopedSems0 c : sProp 𝕄) = semVal (barCell c) 0 := by
  unfold unscopedSems0; rw [bigSep_eq_bigSepL_of_eq [SemLoc.reg sBar] (by decide) (by decide)]; rfl

/-- The kernel's own semaphores: of the loads, the sends and the landings. -/
theorem own_eq : (ownSems0 (τ := τ) osem c : sProp 𝕄)
    = iprop(loads (F := F) c ∗ (each3 fun h q => semVal (sendCell c h q) 0) ∗ each3 fun h q => semVal (recvCell c h q) 0) := by
  unfold ownSems0
  simp only [each3_prod]
  rw [bigSep_univ_sum, bigSep_univ_sum]
  rfl

/-- One of each cell of a device, sorted by kind of cell. -/
theorem cells_eq (Φ : GSem nD τ sig → sProp 𝕄) : (bigSep Finset.univ fun k : CK => Φ (cell c k))
    = iprop(Φ (barCell c) ∗ (each3 fun h q => Φ (sendCell c h q)) ∗ each3 fun h q => Φ (recvCell c h q)) := by
  simp only [each3_prod]
  rw [bigSep_univ_sum, bigSep_univ_sum, show (Finset.univ : Finset Unit) = {()} from rfl, bigSep_singleton]
  rfl

/-- The cells' invariants of one device, from its semaphores. -/
theorem core_alloc :
    iprop(ownSems0 (τ := τ) osem c ∗ unscopedSems0 c ∗ dealt x c)
      ⊢ |={Set.univ}=> iprop((bigSep Finset.univ fun k : CK => iprop(∃ κ : ℕ, cellInv ER (Rd x) κ (cell c k)))
          ∗ (bigSep Finset.univ fun k : CK => atPos ER (cell c k) 0 ∅ 0)
          ∗ (bigSep Finset.univ fun k : CK => reached ER (cell c k) 0) ∗ toks (F := F) c ∗ loads (F := F) c) := by
  unfold dealt
  rw [own_eq, unscoped_eq, bigSep_sep']
  iintro ⟨⟨Hl, Hs, Hr⟩, Hb, Hst, ⟨Hat, Hre⟩, Htok⟩
  ihave Hv := (Entails.of_eq (cells_eq c fun g => (semVal g 0 : sProp 𝕄)).symm) $$ [Hb Hs Hr]
  · isplitl [Hb]; · iexact Hb
    isplitl [Hs] <;> iassumption
  imod (show iprop((bigSep Finset.univ fun k : CK => semVal (cell c k) 0) ∗ bigSep Finset.univ fun k : CK => roundState ER (Rd x) (cell c k) 0)
      ⊢ (|={Set.univ}=> bigSep Finset.univ fun k : CK => iprop(∃ κ : ℕ, cellInv ER (Rd x) κ (cell c k)) : sProp 𝕄) from by
        rw [← bigSep_sep']
        exact (bigSep_mono fun k _ => (Rounds.body_intro ER (Rd x) (cell c k)).trans inv_alloc).trans (bigSep_fupd _ _)) $$ [Hv Hst] with Hinv
  · isplitl [Hv] <;> iassumption
  imodintro
  isplitl [Hinv]; · iexact Hinv
  isplitl [Hat]; · iexact Hat
  isplitl [Hre]; · iexact Hre
  isplitl [Htok] <;> iassumption

/-- The records, without the levels. -/
def records (K : Dev nD × CK → ℕ) : sProp 𝕄 :=
  iprop((bigSep Finset.univ fun ck : Dev nD × CK => cellInv ER (Rd x) (K ck) (cell ck.1 ck.2))
    ∗ bigSep Finset.univ fun ck : Dev nD × CK => reached ER (cell ck.1 ck.2) 0)

/-- The records may be copied. -/
instance records_persistent (K : Dev nD × CK → ℕ) : BI.Persistent (records x K) := by unfold records; infer_instance

/-- What device `c` alone holds: its cells' positions, the tokens of the duties it fulfils, its loads' semaphores. -/
def mine : sProp 𝕄 :=
  iprop((bigSep Finset.univ fun k : CK => atPos ER (cell c k) 0 ∅ 0) ∗ payToks (F := F) c ∗ loads (F := F) c)

/-- What device `c` has after the records are made. -/
def granted : sProp 𝕄 := iprop(∃ K, records x K ∗ mine (F := F) c)

/-- The records under some names, with what a device alone holds, are what it is granted. -/
theorem granted_intro (K : Dev nD × CK → ℕ) : iprop(records x K ∗ mine (F := F) c) ⊢ granted x c := by
  unfold granted
  iintro H
  iexists K; iexact H

/-- From the cells' invariants device by device to records that every device has whole. -/
theorem regroup :
    (bigSep Finset.univ fun c : Dev nD => iprop((bigSep Finset.univ fun k : CK => iprop(∃ κ : ℕ, cellInv ER (Rd x) κ (cell c k)))
          ∗ (bigSep Finset.univ fun k : CK => atPos ER (cell c k) 0 ∅ 0)
          ∗ (bigSep Finset.univ fun k : CK => reached ER (cell c k) 0) ∗ toks (F := F) c ∗ loads (F := F) c) : sProp 𝕄)
      ⊢ bigSep Finset.univ (granted x) := by
  rw [bigSep_sep', bigSep_sep', bigSep_sep', bigSep_sep',
    ← bigSep_univ_prod (fun ck : Dev nD × CK => iprop(∃ κ : ℕ, cellInv ER (Rd x) κ (cell ck.1 ck.2))),
    ← bigSep_univ_prod (fun ck : Dev nD × CK => (reached ER (cell ck.1 ck.2) 0 : sProp 𝕄)), toks_around]
  iintro ⟨HI, Hat, #HR, Htok, Hl⟩
  ihave HK := (BI.bigSep_exists_pi Finset.univ (fun (ck : Dev nD × CK) (κ : ℕ) => (cellInv ER (Rd x) κ (cell ck.1 ck.2) : sProp 𝕄))) $$ HI
  icases HK with ⟨%K, #HI⟩
  iapply (show iprop(records x K ∗ bigSep Finset.univ fun c => mine (F := F) c) ⊢ bigSep Finset.univ (granted x) from
    bigSep_with_persistent fun c _ => granted_intro x c K)
  isplitr
  · unfold records; isplitl; · iexact HI
    iexact HR
  · unfold mine; rw [bigSep_sep', bigSep_sep']
    isplitl [Hat]; · iexact Hat
    isplitl [Htok] <;> iassumption

/-- The records made, of all devices at once. -/
theorem grant : (bigSep Finset.univ fun c => iprop(ownSems0 (τ := τ) osem c ∗ unscopedSems0 c ∗ dealt x c) : sProp 𝕄)
    ⊢ |={Set.univ}=> bigSep Finset.univ (granted x) :=
  ((bigSep_mono fun c _ => core_alloc x c).trans (bigSep_fupd _ _)).trans (BI.fupd_mono (regroup x))

/-! ## The launch credit -/

/-- The credit for what the neighbours owe device `c`'s landing cells of a hop. -/
theorem cred_owed (h : Fin 3) (R : Dev nD → CellTallies nD τ sig Unit) (L : List Str) :
    (launchCred (fun d => owed L (due d h) (R d)) c : sProp 𝕄)
      ⊢ iprop(launchCred R c ∗ bigSepL L fun q => cred (tallyAt (recvCell c h q) () N)) := by
  induction L with
  | nil => iintro H; isplitl [H]; · iexact H
           iempintro
  | cons q L ih =>
    rw [bigSepL_cons]
    show (launchCred (fun d => owed L (due d h) (R d) + due d h q) c : sProp 𝕄)
      ⊢ iprop(launchCred R c ∗ cred (tallyAt (recvCell c h q) () N) ∗ bigSepL L fun q => cred (tallyAt (recvCell c h q) () N))
    rw [launchCred_add]
    iintro ⟨H, Hq⟩
    ihave H := ih $$ H
    icases H with ⟨HR, HL⟩
    ihave Hq := (show (launchCred (fun d => due d h q) c : sProp 𝕄) ⊢ cred (tallyAt (recvCell c h q) () N) from
      launchCred_tallyAt (csem (.inr (.inr (h, q)))) (peer q.1) (src q.1) (peer_src q.1) (src_peer q.1) () N c) $$ Hq
    isplitl [HR]; · iexact HR
    isplitl [Hq] <;> iassumption

/-- The same over all streams. -/
theorem cred_owed' (h : Fin 3) (R : Dev nD → CellTallies nD τ sig Unit) :
    (launchCred (fun d => owed byBlock (due d h) (R d)) c : sProp 𝕄)
      ⊢ iprop(launchCred R c ∗ each fun q => cred (tallyAt (recvCell c h q) () N)) := by
  unfold each
  rw [bigSep_univ_eq_bigSepL byBlock univ_byBlock byBlock_nodup]
  exact cred_owed c h R byBlock

/-- The credit for one neighbour's signal to device `c`'s barrier cell. -/
theorem cred_bar (d : Fin 2) (R : Dev nD → CellTallies nD τ sig Unit) :
    (launchCred (fun e => R e + tallyAt (barCell (peer d e)) () 1) c : sProp 𝕄)
      ⊢ iprop(launchCred R c ∗ cred (tallyAt (barCell c) () 1)) := by
  rw [launchCred_add]
  iintro ⟨HR, H⟩
  isplitl [HR]; · iexact HR
  iapply (launchCred_tallyAt (csem (.inl ())) (peer d) (src d) (peer_src d) (src_peer d) () 1 c) $$ H

/-- The launch credit of device `c`: the two units of its barrier cell, and its landing cells' units. -/
theorem creds : (launchCred Oinit c : sProp 𝕄)
    ⊢ iprop(cred (tallyAt (barCell c) () 2) ∗ each3 fun h q => cred (tallyAt (recvCell c h q) () N)) := by
  iintro H
  ihave H := (show (launchCred Oinit c : sProp 𝕄) ⊢ _ from cred_bar c 1 _) $$ H
  icases H with ⟨H, Hb⟩
  ihave H := (cred_bar c 0 _) $$ H
  icases H with ⟨H, Hb'⟩
  ihave H := (show (launchCred O₀ c : sProp 𝕄) ⊢ _ from cred_owed' c 0 _) $$ H
  icases H with ⟨H, H0⟩
  ihave H := (show (launchCred O₁ c : sProp 𝕄) ⊢ _ from cred_owed' c 1 _) $$ H
  icases H with ⟨H, H1⟩
  ihave H := (show (launchCred O₂ c : sProp 𝕄) ⊢ _ from cred_owed' c 2 _) $$ H
  icases H with ⟨-, H2⟩
  isplitl [Hb Hb']
  · rw [show (tallyAt (barCell c) () 2 : CellTallies nD τ sig Unit) = tallyAt (barCell c) () 1 + tallyAt (barCell c) () 1 from
      (tallyAt_add _ _ 1 1).symm]
    iapply (cred_add _ _).2
    isplitl [Hb] <;> iassumption
  rw [each3_eq]
  isplitl [H0]; · iexact H0
  isplitl [H1] <;> iassumption

/-- What a device starts from, once dealt its credit. -/
theorem ghost_intro (K : Dev nD × CK → ℕ) :
    iprop(records x K ∗ levAts Lv lv ∗ mine (F := F) c ∗ launchCred Oinit c)
      ⊢ iprop(Ctx x K ∗ ghost (F := F) c ∗ loads (F := F) c) := by
  unfold records Ctx mine payToks ghost
  rw [cells_eq c fun g => (atPos ER g 0 ∅ 0 : sProp 𝕄)]
  iintro ⟨⟨HI, HR⟩, HL, ⟨⟨Hab, Has, Har⟩, ⟨Htb, Hts, Htr⟩, Hl⟩, Hcr⟩
  ihave Hcr := (creds (F := F) c) $$ Hcr
  icases Hcr with ⟨Hcb, Hcr⟩
  isplitl [HI HR HL]
  · isplitl [HI]; · iexact HI
    isplitl [HR] <;> iassumption
  isplitr [Hl]; swap; · iexact Hl
  isplitl [Htb]; · iexact Htb
  isplitl [Hcb]; · iexact Hcb
  isplitl [Hab]; · iexact Hab
  unfold tokens due' waiting
  simp only [each3_prod]
  rw [bigSep_sep', bigSep_sep', bigSep_sep']
  isplitl [Hts Htr Has]
  · isplitl [Hts]; · iexact Hts
    isplitl [Htr] <;> iassumption
  isplitl [Hcr] <;> iassumption

end Cert.Proof

end
-- ==== Proof.Launch.lean ====
/- The launch: the pipeline's one point runs the body on every device, and every run of the mesh ends with
   each device's result in its output, the argument unchanged and every semaphore at zero. -/
module

public import proofs.«01_k».proof.Proof.Blocks
public import proofs.«01_k».proof.Proof.Alloc
public import Idealize.ShloMosaic.Lib.Quiescent
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.ShloMosaic.Pipeline (Dat BodyObligation ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The argument on each device. -/
abbrev arg (c : Dev nD) : Buf (Elt F) ((c : Thread nD τ).loc main_arg0) := m ((c : Thread nD τ).loc main_arg0)

/-- The state at launch. -/
abbrev s₀ : MemSt nD τ sig (Elt F) := ⟨m, fun _ => 0, ρ⟩

/-! ## The point's assertions -/

/-- A whole buffer at some contents. -/
abbrev some1 (c : Dev nD) (b : Ref sig .tc) : sProp 𝕄 :=
  iprop(∃ f : Buf (Elt F) ((c : Thread nD τ).loc b), ((c : Thread nD τ).loc b) ↦{fullShare} f)

/-- The scratch buffers. -/
def scratch (c : Dev nD) : sProp 𝕄 :=
  iprop(some1 (F := F) c cc0_scratch0 ∗ some1 (F := F) c cc0_scratch1 ∗ some1 (F := F) c cc0_scratch2 ∗ some1 (F := F) c cc0_scratch3)

/-- Before the point: the protocol's resources, the share of the argument the loads read, and the scratch buffers. -/
def start (c : Dev nD) : sProp 𝕄 :=
  iprop((∃ K, Ctx (arg m) K ∗ ghost (F := F) c ∗ loads (F := F) c) ∗ (((c : Thread nD τ).loc main_arg0) ↦{qx} arg m c))

/-- Before the point: all of that, with the scratch buffers. -/
def before (c : Dev nD) : sProp 𝕄 := iprop(start m c ∗ scratch (F := F) c)

/-- After it: the scratch buffers and every semaphore at zero. -/
def after (c : Dev nD) : sProp 𝕄 := iprop(unscopedSems0 c ∗ ownSems0 (τ := τ) osem c ∗ scratch (F := F) c)

/-- What the body is given, returns, holds and owes, before and after its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt c (arg m)
  Φ t := match t with
    | ⟨0, _⟩ => before m c
    | ⟨_ + 1, _⟩ => after c
  q _ := fullShare
  owed t := match t with
    | ⟨0, _⟩ => Oinit c
    | ⟨_ + 1, _⟩ => 0

/-! ## The scratch buffers as the streams' parts -/

/-- A whole buffer at some contents is its memref at some contents. -/
theorem whole_own0 (c : Dev nD) (b : Ref sig .tc) : some1 (F := F) c b = own0 (F := F) c (Memref.whole b) := by
  unfold some1 own0
  exact congrArg _ (funext fun f => (owns_whole _ _ _ _).symm)

/-- The landing blocks by direction are the landing blocks by hop and stream. -/
theorem comms_eq (c : Dev nD) : (bigSep Finset.univ fun d => commAny (F := F) d c)
    = each3 fun h q => own0 (F := F) c (pComm q.1 h q.2) := comm_eq fun _ => c

/-- The scratch buffers are cut into the streams' blocks, -/
theorem scratch_split (c : Dev nD) : scratch (F := F) c ⊢ iprop((each fun q => own0 (F := F) c (pStage q.1 q.2))
    ∗ (each fun q => own0 (F := F) c (pSend q.1 q.2)) ∗ each3 fun h q => own0 (F := F) c (pComm q.1 h q.2)) := by
  unfold scratch
  rw [whole_own0, whole_own0, whole_own0, whole_own0, ← comms_eq, Ring.bigSep_fin2 (fun d => commAny (F := F) d c)]
  iintro ⟨H0, H1, H2, H3⟩
  isplitl [H0]; · iapply (two_split c mStage) $$ H0
  isplitl [H1]; · iapply (two_split c mSend) $$ H1
  isplitl [H2]; · iapply (show own0 (F := F) c (Memref.whole cc0_scratch2) ⊢ commAny (F := F) 0 c from comm_split c 0) $$ H2
  iapply (show own0 (F := F) c (Memref.whole cc0_scratch3) ⊢ commAny (F := F) 1 c from comm_split c 1) $$ H3

/-- and joined again. -/
theorem scratch_join (c : Dev nD) : iprop((each fun q => own0 (F := F) c (pStage q.1 q.2))
    ∗ (each fun q => own0 (F := F) c (pSend q.1 q.2)) ∗ each3 fun h q => own0 (F := F) c (pComm q.1 h q.2))
      ⊢ scratch (F := F) c := by
  unfold scratch
  rw [whole_own0, whole_own0, whole_own0, whole_own0, ← comms_eq, Ring.bigSep_fin2 (fun d => commAny (F := F) d c)]
  iintro ⟨H0, H1, H2, H3⟩
  isplitl [H0]; · iapply (two_join c mStage fun _ => Classical.arbitrary _) $$ H0
  isplitl [H1]; · iapply (two_join c mSend fun _ => Classical.arbitrary _) $$ H1
  isplitl [H2]; · iapply (comm_join c 0 fun _ => Classical.arbitrary _) $$ H2
  iapply (comm_join c 1 fun _ => Classical.arbitrary _) $$ H3

/-! ## The body's obligation -/

/-- The grid's one point. -/
abbrev t₀ : Fin cfg0.N := t0_0

/-- What the body starts from, -/
def bodyPre (c : Dev nD) : sProp 𝕄 :=
  iprop(before m c ∗ (dats m ρ 0 c).owesAt () t₀.castSucc
    ∗ (∃ d, own1 c mOut ((dats m ρ 0 c).before (0 : Fin 1) t₀ d)))

/-- and what it ends with. -/
def bodyPost (c : Dev nD) : sProp 𝕄 :=
  iprop(after c ∗ (dats m ρ 0 c).owesAt () t₀.succ ∗ own1 c mOut (outAt c (arg m)))

/-- The body, from what it starts from, ends with what it should. -/
theorem body_wp (c : Dev nD) : bodyPre m ρ c ⊢ wpAt c bodyGen fun _ => bodyPost m ρ c := by
  unfold bodyPre before start bodyGen wpAt
  rw [wp_deviceId]
  iintro ⟨⟨⟨⟨%K, HC, Hg, Hl⟩, Hx⟩, Hscr⟩, Ho, ⟨%d, Hout⟩⟩
  unfold Dat.owesAt Pipeline.owesWithin
  icases Ho with ⟨%W, -, HO⟩
  rw [show (dats m ρ 0 c).owed t₀.castSucc = Oinit c from rfl]
  ihave Hscr := (scratch_split c) $$ Hscr
  icases Hscr with ⟨Hst, Hsb, Hcb⟩
  ihave Hx := (arg_split c (arg m)) $$ Hx
  ihave Hout := ((own0_intro c mOut _).trans (out_split c)) $$ Hout
  iapply (wp_bodyAt (arg m) K c (Q := fun _ => bodyPost m ρ c)) $$ [HC Hg Hl Hx Hst Hsb Hcb Hout HO]
  · isplitl [HC]; · iexact HC
    isplitl [Hg]; · iexact Hg
    isplitr [HO]
    · unfold bufs
      isplitl [Hx]; · iexact Hx
      isplitl [Hst Hl]
      · unfold each idle; rw [bigSep_sep']
        isplitl [Hst] <;> iassumption
      isplitl [Hsb]; · iexact Hsb
      isplitl [Hcb] <;> iassumption
    iexists W; iexact HO
  unfold done bodyPost after Dat.owesAt Pipeline.owesWithin each idle
  rw [bigSep_sep', unscoped_eq, own_eq]
  iintro ⟨⟨⟨Hst, Hl⟩, Hsb, Hcb, Hout, Hzb, Hzs, Hzr⟩, ⟨%W', HO⟩⟩
  isplitr [HO Hout]
  · isplitl [Hzb]; · iexact Hzb
    isplitl [Hl Hzs Hzr]
    · isplitl [Hl]; · iexact Hl
      isplitl [Hzs] <;> iassumption
    iapply (scratch_join c)
    isplitl [Hst]; · iexact Hst
    isplitl [Hsb] <;> iassumption
  isplitl [HO]
  · iexists W'
    isplitr; · ipureintro; exact fun _ _ => Or.inl trivial
    iexact HO
  iapply (out_join c (arg m)) $$ Hout

/-- The point's program is the body. -/
theorem prog_eq : defs₀ (F := F) Proc.tc cfg0.body (cfg0.bodyArgs t₀ (cfg0.slots t₀)) = bodyGen :=
  (show _ = cc0_body mX (Memref.isWhole_whole _) mOut (Memref.isWhole_whole _) mStage (Memref.isWhole_whole _) mSend
      (Memref.isWhole_whole _) (mComm 0) (Memref.isWhole_whole _) (mComm 1) (Memref.isWhole_whole _)
      cc0_scratch4 cc0_scratch5 cc0_scratch6 from rfl).trans (cc0_body_eq _)

set_option maxRecDepth 4000 in
/-- The body's obligation on each device. -/
theorem body_obligation (c : Dev nD) : BodyObligation (dats (F := F) m ρ 0 c) (defs₀ (F := F)) 𝒱₀ () Set.univ := fun t => by
  rw [show t = t₀ from fin_N0 t]
  rw [show ∀ Φ : Fin cfg0.W → sProp 𝕄, bigSep Finset.univ Φ = iprop(Φ (0 : Fin 1)) from bigSep_W0,
    show ∀ Φ : Fin cfg0.W → sProp 𝕄, bigSep Finset.univ Φ = iprop(Φ (0 : Fin 1)) from bigSep_W0]
  rw [prog_eq]
  have e : iprop((dats m ρ 0 c).Φ t₀.castSucc ∗ (dats m ρ 0 c).owesAt () t₀.castSucc
      ∗ (∃ d, owns (c : Thread nD τ) (stage0_0 0) fullShare ((dats m ρ 0 c).before 0 t₀ d))) = bodyPre m ρ c := rfl
  have e' : iprop((dats m ρ 0 c).Φ t₀.succ ∗ (dats m ρ 0 c).owesAt () t₀.succ
      ∗ owns (c : Thread nD τ) (stage0_0 0) fullShare ((dats m ρ 0 c).after 0 t₀)) = bodyPost m ρ c := rfl
  rw [show cfg0.idle 0 (cfg0.grid.coords t₀) = false from rfl]
  dsimp only
  rw [e, e']
  have h := body_wp m ρ c
  revert h
  generalize bodyGen (F := F) = p
  exact id

/-! ## The launch's side conditions -/

/-- The kernel's own semaphores are scoped, all different, and none is a window's. -/
theorem ownSemFacts : Pipeline.OwnSemFacts cfg0.spec osem where
  isScoped := by decide +kernel
  inj := osem_injective
  disj := by
    have h0 : ∀ (w : Fin cfg0.W) (s : Fin (cfg0.win w).nbuf), ((cfg0.win w).sem s).val = 0 := by decide
    intro k w s e
    rcases k with k | k | k
    all_goals
      have e := dma_val e
      have h0 := h0 w s
      simp only [sLoad_val, sSend_val, sRecv_val] at e
      have : ((cfg0.spec w).sem s).val = 0 := h0
      omega

/-- Every window's share is the whole. -/
theorem share_eq (c : Dev nD) (w : Fin cfg0.W) : (dats m ρ 0 c).share w = fullShare := by unfold Dat.share; split <;> rfl

/-- The launch hands each device its start, and the other share of the argument aside. -/
theorem start_intro (c : Dev nD) :
    iprop(Pipeline.unscopedRestP Pipeline.Prefetch.none cfg0.spec c (fun b => m ((c : Thread nD τ).loc b)) ∗ levAts Lv lv
        ∗ Pipeline.launchCred Oinit c ∗ prngReg c (ρ c) ∗ granted (arg m) c)
      ⊢ |={Set.univ}=> iprop(start m c ∗ (((c : Thread nD τ).loc main_arg0) ↦{fullShare.left} arg m c)) := by
  rw [Pipeline.unscopedRestP_none, show (Pipeline.unscopedRest cfg0.spec c (fun b => m ((c : Thread nD τ).loc b)) : sProp 𝕄) = _ from unscopedRest0_eq c _]
  unfold granted
  iintro ⟨Hx, HL, Hcr, -, ⟨%K, HR, HM⟩⟩
  ihave HG := (ghost_intro (arg m) c K) $$ [HL Hcr HR HM]
  · isplitl [HR]; · iexact HR
    isplitl [HL]; · iexact HL
    isplitl [HM] <;> iassumption
  ihave Hx := (pointsTo_share (PosShare.mem_left_op_right fullShare)).1 $$ Hx
  icases Hx with ⟨Hxl, Hxr⟩
  imodintro
  unfold start
  isplitr [Hxl]; swap; · iexact Hxl
  isplitl [HG]
  · iexists K; iexact HG
  iexact Hxr

/-- The start and the scratch buffers are what holds before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, show (Pipeline.scopedRest cfg0.spec c : sProp 𝕄) = _ from scopedRest0_eq c]
  unfold before scratch
  iintro ⟨Hs, -, Hr⟩
  isplitl [Hs]; · iexact Hs
  iexact Hr

/-- What holds after the point gives back every semaphore at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, show (Pipeline.scopedRest cfg0.spec c : sProp 𝕄) = _ from scopedRest0_eq c]
  unfold after scratch
  iintro H; iexact H

/-- The copies of the output's window may be waited for, whatever is owed. -/
theorem waits (c : Dev nD) : (levAts Lv lv : sProp 𝕄) ⊢ Pipeline.cellsWaits cfgs (dats m ρ) () 0 c :=
  Pipeline.cellsWaits_intro cfgs (dats m ρ) () 0 c fun w s t => by
    have h0 : ∀ (w : Fin cfg0.W) (s : Fin (cfg0.win w).nbuf), ((cfg0.win w).sem s).val = 0 := by decide
    refine mayWait c _ 0 (le_of_eq ?_) _ ?_
    · show (look (.dma ((cfg0.win w).sem s))).elim 0 lvK = 0
      rw [look_none]; · rfl
      rintro (k | k | k) e
      · cases e
      · exact ownSemFacts.disj (.inr (.inl k)) w s e
      · exact ownSemFacts.disj (.inr (.inr k)) w s e
    · rcases t with ⟨_ | _, ht⟩
      · exact above_Oinit c
      · exact Above.zero 0

/-! ## The run -/

/-- How a run ends: each device's output at its result, and its argument unchanged. -/
def Ends (s : MemSt nD τ sig (Elt F)) : Prop := ∀ c : Dev nD,
  s.mem ((c : Thread nD τ).loc main_v1) = (dats m ρ 0 c).arrAt (0 : Fin 1) cfg0.N
    ∧ s.mem ((c : Thread nD τ).loc main_arg0) = arg m c

set_option maxRecDepth 8000 in
/-- Every weakly fair run of the four devices, from any memory with zero semaphores, ends; and it ends so,
    with every semaphore at zero. -/
theorem run_main : θ_run defs (onTc (τ := τ) (main (F := F))) (s₀ m ρ) (fun r => Ends m ρ r.2 ∧ r.2.sem = fun _ => 0) :=
  by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0)
    (hstage := stage_whole0) (hshare := share_eq m ρ) (hdistinct := winFacts0.arr_inj)
    (O₀ := Oinit) (howed₀ := fun _ => rfl) (howedN := fun _ => rfl)
    (L := Lv) (lv := lv) (hL := Lv_of_ne) (hwaits := waits m ρ)
    (G := dealt (arg m)) (G' := granted (arg m)) (u₀ := u₀)
    (hu₀ := by
      iintro Hu
      ihave H := own_u₀ $$ Hu
      icases H with ⟨HP, HX⟩
      imod (deal (arg m)) $$ HX with HG
      imodintro
      isplitl [HP] <;> iassumption)
    (hglob := grant (arg m))
    (hA := fun _ _ => rfl) (hpf := fun _ k => k.elim0)
    (X := start m) (Y := fun c => unscopedSems0 c)
    (Z := fun c => (((c : Thread nD τ).loc main_arg0) ↦{fullShare.left} arg m c))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = arg m c)
    (hY := fun c s' => by
      iintro ⟨Hu, Hx, HSI⟩
      ihave %hx := (SI_pointsTo_agree (st := s') (ℓ := (c : Thread nD τ).loc main_arg0)) $$ [HSI Hx]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hx i (Finset.mem_univ i)⟩
      iexact HSI)
    (hQ := fun _ h hs => ⟨fun c => ⟨(h c).1 0, (h c).2.2.2⟩, sem_eq_zero hs fun c => (h c).2.2.1⟩)

end Cert.Proof

end
-- ==== Proof.Values.lean ====
/- The values. Over the extended reals the four devices' blocks that a stream adds up are the same rows and
   columns of the four blocks of the whole argument, so that each entry of a device's result is the sum of
   the whole argument's four entries there. -/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.ValueLayout
public import Idealize.ShloMosaic.Lib.Pointwise.Reduce
public import Idealize.ShloMosaic.Lib.Pipeline.ValueKit.Geometry

@[expose] public section

noncomputable section

namespace Cert.Proof

open Cert.KernelIdeal Cert.KernelIdeal.Gen
open Idealize.ShloMosaic hiding ix2 ix3
open Idealize.ShloMosaic.TcCoe Idealize.ShloMosaic.ValueIdx
open Idealize.SL.Sem

section Run

variable {F : FTy → Type} [FloatOps F] (m : (ℓ : Loc nD τ sig) → Buf (Elt F) ℓ) (ρ : Dev nD → PrngReg)

/-- The one point writes the whole result array: it ends at the body's output. -/
theorem final_out (c : Dev nD) : (dats m ρ 0 c).arrAt (0 : Fin 1) cfg0.N = outAt c (arg m) :=
  (dats m ρ 0 c).arrAt_eq_of_after_last (0 : Fin 1) t₀ (by decide +kernel) _ fun _ => rfl

/-- The run at its values: each device's result at what its streams add up, its argument unchanged, every
    semaphore at zero. -/
theorem run_values : θ_run defs (onTc (τ := τ) (main (F := F))) (s₀ m ρ) (fun r => (∀ c : Dev nD,
      r.2.mem ((c : Thread nD τ).loc main_v1) = outAt c (arg m)
      ∧ r.2.mem ((c : Thread nD τ).loc main_arg0) = arg m c) ∧ r.2.sem = fun _ => 0) :=
  (θ_run defs _ _).mono (fun _ h => ⟨fun c => ⟨(h.1 c).1.trans (final_out m ρ c), (h.1 c).2⟩, h.2⟩) (run_main m ρ)

end Run

/-! ## A loaded block, entry by entry -/

/-- The rows of a stream's block within the argument. -/
def row (q : Str) (a : Fin 128) : Fin 4096 := ⟨2048 * q.1.val + 128 * q.2.val + a.val, by omega⟩

/-- The columns of a chunk within the argument. -/
def col (k : Fin 4) (b : Fin 1024) : Fin 4096 := ⟨1024 * k.val + b.val, by omega⟩

/-- Load `j` of stream `q` at device `c` reads the stream's rows and the load's chunk of columns. -/
theorem xv_apply {F : FTy → Type} [FloatOps F] (x : (c : Dev nD) → Buf (Elt F) ((c : Thread nD τ).loc main_arg0))
    (c : Dev nD) (j : Fin 4) (q : Str) (a : Fin 128) (b : Fin 1024) :
    xv x c j q (ix2 a b) = x c (ix3 (0 : Fin 1) (row q a) (col (chunk c q.1 j) b)) := by
  show shapeCast S128x1024 (fun i => x c ((rX c q.1 q.2 j).emb i)) _ (ix2 a b) = _
  rw [shapeCast_1ab_ab_apply]
  refine congrArg (x c) (funext fun k => ?_)
  match k with
  | 0 => exact Fin.ext (by show 0 + 1 * 0 = 0; rfl)
  | 1 => exact Fin.ext (by show 2048 * q.1.val + 128 * q.2.val + 1 * a.val = 2048 * q.1.val + 128 * q.2.val + a.val; omega)
  | 2 => exact Fin.ext (by
      show (xcol q.1 c (xarg q.1 j).1 (xarg q.1 j).2).toNat + 1 * b.val = 1024 * (chunk c q.1 j).val + b.val
      rw [xcol_eq]; omega)

/-- The devices a stream's result comes from are all four. -/
theorem sum_ring (d : Fin 2) (c : Dev nD) (f : Dev nD → EReal) :
    f (src d (src d (src d c))) + f (src d (src d c)) + f (src d c) + f c = ∑ k, f k := by
  have hu : (Finset.univ : Finset (Dev nD)) = {src d (src d (src d c)), src d (src d c), src d c, c} := by
    revert d c; decide +kernel
  have h₁ : src d (src d (src d c)) ∉ ({src d (src d c), src d c, c} : Finset (Dev nD)) := by
    revert d c; decide +kernel
  have h₂ : src d (src d c) ∉ ({src d c, c} : Finset (Dev nD)) := by revert d c; decide +kernel
  have h₃ : src d c ∉ ({c} : Finset (Dev nD)) := by revert d c; decide +kernel
  rw [hu, Finset.sum_insert h₁, Finset.sum_insert h₂, Finset.sum_insert h₃, Finset.sum_singleton, add_assoc, add_assoc]

/-- The chunk each device on a stream's way to `c` adds is chunk `c`. -/
theorem chunk_way : ∀ (d : Fin 2) (c : Dev nD), chunk c d 3 = c ∧ chunk (src d c) d 2 = c
    ∧ chunk (src d (src d c)) d 1 = c ∧ chunk (src d (src d (src d c))) d 0 = c := by decide +kernel

variable (x : (c : Dev nD) → Buf (Elt Ideal) ((c : Thread nD τ).loc main_arg0))

/-- An entry of device `k`'s argument, an extended real. -/
def ent (k : Dev nD) (r s : Fin 4096) : EReal := x k (ix3 (0 : Fin 1) r s)

/-- Over the extended reals a stream's result at device `c` is, entry by entry, the sum over the devices of
    the stream's rows and chunk `c` of the columns of their arguments. -/
theorem val_sum (q : Str) (c : Dev nD) (a : Fin 128) (b : Fin 1024) :
    val x q 3 c (ix2 a b) = ∑ k : Dev nD, ent x k (row q a) (col c b) := by
  obtain ⟨h3, h2, h1, h0⟩ := chunk_way q.1 c
  have e : ∀ (k : Dev nD) (j : Fin 4), chunk k q.1 j = c → (xv x k j q (ix2 a b) : EReal) = ent x k (row q a) (col c b) :=
    fun k j h => by rw [xv_apply, h]; rfl
  rw [← sum_ring q.1 c, ← e _ 0 h0, ← e _ 1 h1, ← e _ 2 h2, ← e _ 3 h3]
  rfl

/-- The rows of the stream and the index within its block of an index of the output are that index's row. -/
theorem row_tagO (i : S4096x1024.Idx) : row (tagO i) (inO i 0) = i 0 := Fin.ext (by
  have : (i 0).val < 4096 := (i 0).isLt
  show 2048 * ((i 0).val / 2048) + 128 * ((i 0).val / 128 % 16) + (i 0).val % 128 = (i 0).val
  omega)

/-- Where each device's argument is its block of a whole argument `v`, each device's output is its block of
    columns of the sum of `v` over the first axis. -/
theorem out_sum (v : FVec Ideal Cert.ReferenceIdeal.S4x4096x4096 .f32)
    (hx : ∀ c, x c = Layout.block ⟨3, ![1, 4096, 4096]⟩ ⟨3, ![4, 4096, 4096]⟩ 0 4 c v) (c : Dev nD) :
    outAt c x = Layout.block ⟨2, ![4096, 1024]⟩ ⟨2, ![4096, 4096]⟩ 1 4 c
      (truncf .bf16 (Host.reduceAdd v (constant Cert.ReferenceIdeal.S_ .f32 0x00000000#32)
        Cert.ReferenceIdeal.Gen.reducesTo_S4x4096x4096_S4096x4096_d0 Cert.ReferenceIdeal.Gen.h_S_)
        Cert.ReferenceIdeal.Gen.bitsLt_bf16_f32) := by
  funext i
  have hl : outAt c x i = ∑ k : Dev nD, ent x k (i 0) (col c (i 1)) := by
    refine (congrArg (val x (tagO i) 3 c)
      (show inO i = ix2 (n0 := 128) (n1 := 1024) (inO i 0) (i 1) from funext fun a => by match a with | 0 => rfl | 1 => rfl)).trans ?_
    refine (val_sum x (tagO i) c (inO i 0) (i 1)).trans ?_
    rw [row_tagO]
  rw [hl, Layout.block_apply]
  refine Eq.symm (Eq.trans (b := ((0 : EReal) + ∑ k : Fin 4, v (ix3 k (i 0) (col c (i 1))) : EReal)) ?_ ?_)
  · refine (Ideal.hostReduceAdd_r3_a0 (n0 := 4) (n1 := 4096) (n2 := 4096)
      Cert.ReferenceIdeal.Gen.reducesTo_S4x4096x4096_S4096x4096_d0 v (Ideal.ofBits .f32 0x00000000#32) _).trans ?_
    rw [Ideal.ofBits_zero_f32]
    refine congrArg ((0 : EReal) + ·) (Finset.sum_congr rfl fun k _ => congrArg v (funext fun a => ?_))
    match a with
    | 0 => rfl
    | 1 => rfl
    | 2 => exact Fin.ext (by show c.val * 1024 + (i 1).val = 1024 * c.val + (i 1).val; omega)
  rw [zero_add]
  refine Finset.sum_congr rfl fun k _ => ?_
  unfold ent
  rw [hx k, Layout.block_apply]
  refine congrArg v (funext fun a => ?_)
  match a with
  | 0 => exact Fin.ext (by show k.val = k.val * 1 + 0; omega)
  | 1 => rfl
  | 2 => rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem

/-- The kernel and its idealization have one text: their bodies are one program, -/
theorem defs₀_eq : @Cert.Kernel.defs₀ Bits _ Cert.Kernel.Gen.facts = @Cert.KernelIdeal.defs₀ Bits _ Cert.KernelIdeal.Gen.facts := by
  chain_rfl

/-- and so are their launches. -/
theorem defs_eq : @Cert.Kernel.defs Bits _ Cert.Kernel.Gen.facts = @Cert.KernelIdeal.defs Bits _ Cert.KernelIdeal.Gen.facts := by
  unfold Cert.Kernel.defs
  rw [defs₀_eq]
  rfl

/-- The kernel at the machine's own floats runs to its end, its argument unchanged and every semaphore at zero. -/
theorem frame_kernel : Cert.quiescent_Kernel (hKernel := Cert.Kernel.Gen.facts) := fun m g _ => by
  have h := (θ_run Cert.KernelIdeal.defs (onTc (τ := Cert.KernelIdeal.τ) (Cert.KernelIdeal.main (F := Bits))) (s₀ m g)).mono
    (Q' := fun r => (∀ c : Dev Cert.KernelIdeal.nD, r.2.mem ((c.tc : Thread Cert.KernelIdeal.nD Cert.KernelIdeal.τ).loc Cert.KernelIdeal.main_arg0)
      = arg m c) ∧ r.2.sem = fun _ => 0)
    (fun _ h => ⟨fun c => (h.1 c).2, h.2⟩) (run_values (F := Bits) m g)
  rw [defs_eq]
  exact h

/-- So does the kernel over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (run_values (F := Ideal) m g)

/-- The reference runs to its end, its argument unchanged; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals each device's result is its block of columns of the reference's result. -/
theorem algebraic : Cert.algebraic_KernelIdeal_ReferenceIdeal (hKernelIdeal := Cert.KernelIdeal.Gen.facts)
    (hReferenceIdeal := Cert.ReferenceIdeal.Gen.facts) := fun m g m' g' _ hx =>
  ⟨_, (θ_run Cert.KernelIdeal.defs _ _).mono
      (fun _ h c => ⟨(h.1 c).1.trans (out_sum (arg m) _ hx c), (h.1 c).2⟩) (run_values (F := Ideal) m g),
    (θ_run Cert.ReferenceIdeal.defs _ _).mono (fun _ h => h 0) (Cert.ReferenceIdeal.Value.run (F := Ideal) m' g')⟩

/-- The whole claim: every claim above, of the printed programs. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
